-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x512x64 : Shape := ⟨4, ![8, 128, 512, 64]⟩
abbrev S128x128 : Shape := ⟨2, ![128, 128]⟩
abbrev S8x52x64 : Shape := ⟨3, ![8, 52, 64]⟩
abbrev S1x8x512x64 : Shape := ⟨4, ![1, 8, 512, 64]⟩
abbrev S1x52x64 : Shape := ⟨3, ![1, 52, 64]⟩
abbrev S128x512 : Shape := ⟨2, ![128, 512]⟩
abbrev S512x64 : Shape := ⟨2, ![512, 64]⟩
abbrev S8x512x64 : Shape := ⟨3, ![8, 512, 64]⟩
abbrev S8x512x8 : Shape := ⟨3, ![8, 512, 8]⟩
abbrev S8x512x4 : Shape := ⟨3, ![8, 512, 4]⟩
abbrev S8x512x2 : Shape := ⟨3, ![8, 512, 2]⟩
abbrev S8x512x1 : Shape := ⟨3, ![8, 512, 1]⟩
abbrev S8x512 : Shape := ⟨2, ![8, 512]⟩
abbrev S8x128 : Shape := ⟨2, ![8, 128]⟩
abbrev S4x128 : Shape := ⟨2, ![4, 128]⟩
abbrev S2x128 : Shape := ⟨2, ![2, 128]⟩
abbrev S1x128 : Shape := ⟨2, ![1, 128]⟩
abbrev S1x512 : Shape := ⟨2, ![1, 512]⟩
abbrev S512 : Shape := ⟨1, ![512]⟩
abbrev S512x1 : Shape := ⟨2, ![512, 1]⟩
abbrev S512x512 : Shape := ⟨2, ![512, 512]⟩
abbrev S52x512 : Shape := ⟨2, ![52, 512]⟩
abbrev S52x64 : Shape := ⟨2, ![52, 64]⟩
abbrev S8x128x52x64 : Shape := ⟨4, ![8, 128, 52, 64]⟩
abbrev S1x16x52x64 : Shape := ⟨4, ![1, 16, 52, 64]⟩
abbrev S1x1x52x64 : Shape := ⟨4, ![1, 1, 52, 64]⟩
abbrev S1024x52x64 : Shape := ⟨3, ![1024, 52, 64]⟩

abbrev nBuf : Space → Nat
  | .hbm => 5
  | .vmem => 11
  | .smem => 0
  | _ => 0

abbrev bufTy : (tb : Table) → Fin (tcTables nBuf tb) → BufTy
  | .hbm, ⟨0, _⟩ => ⟨S8x128x512x64, .f32⟩
  | .hbm, ⟨1, _⟩ => ⟨S128x128, .f32⟩
  | .hbm, ⟨2, _⟩ => ⟨S8x52x64, .f32⟩
  | .hbm, ⟨3, _⟩ => ⟨S8x128x52x64, .f32⟩
  | .hbm, ⟨4, _⟩ => ⟨S1024x52x64, .f32⟩
  | .local _ .vmem, ⟨0, _⟩ => ⟨S128x128, .f32⟩
  | .local _ .vmem, ⟨1, _⟩ => ⟨S1x8x512x64, .f32⟩
  | .local _ .vmem, ⟨2, _⟩ => ⟨S1x8x512x64, .f32⟩
  | .local _ .vmem, ⟨3, _⟩ => ⟨S1x52x64, .f32⟩
  | .local _ .vmem, ⟨4, _⟩ => ⟨S1x52x64, .f32⟩
  | .local _ .vmem, ⟨5, _⟩ => ⟨S128x512, .f32⟩
  | .local _ .vmem, ⟨6, _⟩ => ⟨S512x64, .f32⟩
  | .local _ .vmem, ⟨7, _⟩ => ⟨S1x52x64, .f32⟩
  | .local _ .vmem, ⟨8, _⟩ => ⟨S1x52x64, .f32⟩
  | .local _ .vmem, ⟨9, _⟩ => ⟨S1x16x52x64, .f32⟩
  | .local _ .vmem, ⟨10, _⟩ => ⟨S1x16x52x64, .f32⟩
  | _, _ => ⟨S8x128x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c8_i32 : BitVec 32 := 8#32
  let v29 : BitVec 32 := Scalar.muli arg1 c8_i32
  v29
def k0_off1 (i : grid0.Coords) : Fin 2 → Nat :=
  let arg1 : BitVec 32 := BitVec.ofNat 32 (i 1).val
  let c8_i32 : BitVec 32 := 8#32
  let v29 : BitVec 32 := Scalar.muli arg1 c8_i32
  let v30 : BitVec 32 := v29
  let v31 : Index := Scalar.indexCast v30
  let c0_3 : Index := 0#32
  ![v31.toNat, 0]
def k0_cond3 (i : grid0.Coords) : BitVec 1 :=
  let arg1 : BitVec 32 := BitVec.ofNat 32 (i 1).val
  let c15_i32 : BitVec 32 := 15#32
  let v42 : BitVec 1 := Scalar.cmpi .eq arg1 c15_i32
  let v43 : BitVec 32 := Scalar.extui v42
  let c0_i32_7 : BitVec 32 := 0#32
  let v44 : BitVec 1 := Scalar.cmpi .ne v43 c0_i32_7
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x8x512x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x52x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x52x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x16x52x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== ReferenceIdeal.lean ====
abbrev S8x128x512x64 : Shape := ⟨4, ![8, 128, 512, 64]⟩
abbrev S128x128 : Shape := ⟨2, ![128, 128]⟩
abbrev S_ : Shape := ⟨0, ![]⟩
abbrev S128 : Shape := ⟨1, ![128]⟩
abbrev S8x128x512 : Shape := ⟨3, ![8, 128, 512]⟩
abbrev S8x512 : Shape := ⟨2, ![8, 512]⟩
abbrev S8x52 : Shape := ⟨2, ![8, 52]⟩
abbrev S8x512x64 : Shape := ⟨3, ![8, 512, 64]⟩
abbrev S8x52x1 : Shape := ⟨3, ![8, 52, 1]⟩
abbrev S1 : Shape := ⟨1, ![1]⟩
abbrev S1x1x1 : Shape := ⟨3, ![1, 1, 1]⟩
abbrev S8x52x64 : Shape := ⟨3, ![8, 52, 64]⟩
abbrev S8x1x52x64 : Shape := ⟨4, ![8, 1, 52, 64]⟩
abbrev S8x128x52x64 : Shape := ⟨4, ![8, 128, 52, 64]⟩
abbrev S1024x52x64 : Shape := ⟨3, ![1024, 52, 64]⟩

abbrev nBuf : Space → Nat
  | .hbm => 45
  | .vmem => 0
  | .smem => 0
  | _ => 0

abbrev bufTy : (tb : Table) → Fin (tcTables nBuf tb) → BufTy
  | .hbm, ⟨0, _⟩ => ⟨S8x128x512x64, .f32⟩
  | .hbm, ⟨1, _⟩ => ⟨S128x128, .f32⟩
  | .hbm, ⟨2, _⟩ => ⟨S_, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S8x128x512x64, .f32⟩
  | .hbm, ⟨8, _⟩ => ⟨S_, .f32⟩
  | .hbm, ⟨9, _⟩ => ⟨S8x128x512, .f32⟩
  | .hbm, ⟨10, _⟩ => ⟨S8x128x512, .f32⟩
  | .hbm, ⟨11, _⟩ => ⟨S8x512, .f32⟩
  | .hbm, ⟨12, _⟩ => ⟨S8x52, .f32⟩
  | .hbm, ⟨13, _⟩ => ⟨S8x52, .i32⟩
  | .hbm, ⟨14, _⟩ => ⟨S_, .f32⟩
  | .hbm, ⟨15, _⟩ => ⟨S8x512x64, .f32⟩
  | .hbm, ⟨16, _⟩ => ⟨S_, .f32⟩
  | .hbm, ⟨17, _⟩ => ⟨S8x512x64, .f32⟩
  | .hbm, ⟨18, _⟩ => ⟨S8x512x64, .f32⟩
  | .hbm, ⟨19, _⟩ => ⟨S8x52x1, .i32⟩
  | .hbm, ⟨20, _⟩ => ⟨S_, .i32⟩
  | .hbm, ⟨21, _⟩ => ⟨S8x52x1, .i32⟩
  | .hbm, ⟨22, _⟩ => ⟨S8x52x1, .i1⟩
  | .hbm, ⟨23, _⟩ => ⟨S_, .i32⟩
  | .hbm, ⟨24, _⟩ => ⟨S8x52x1, .i32⟩
  | .hbm, ⟨25, _⟩ => ⟨S8x52x1, .i32⟩
  | .hbm, ⟨26, _⟩ => ⟨S8x52x1, .i32⟩
  | .hbm, ⟨27, _⟩ => ⟨S1, .i32⟩
  | .hbm, ⟨28, _⟩ => ⟨S_, .i32⟩
  | .hbm, ⟨29, _⟩ => ⟨S8x52x1, .i32⟩
  | .hbm, ⟨30, _⟩ => ⟨S8x52x1, .i1⟩
  | .hbm, ⟨31, _⟩ => ⟨S1x1x1, .i32⟩
  | .hbm, ⟨32, _⟩ => ⟨S8x52x1, .i32⟩
  | .hbm, ⟨33, _⟩ => ⟨S8x52x1, .i1⟩
  | .hbm, ⟨34, _⟩ => ⟨S8x52x1, .i1⟩
  | .hbm, ⟨35, _⟩ => ⟨S_, .i1⟩
  | .hbm, ⟨36, _⟩ => ⟨S8x52, .i1⟩
  | .hbm, ⟨37, _⟩ => ⟨S8x52x64, .f32⟩
  | .hbm, ⟨38, _⟩ => ⟨S8x52x64, .i1⟩
  | .hbm, ⟨39, _⟩ => ⟨S_, .f32⟩
  | .hbm, ⟨40, _⟩ => ⟨S8x52x64, .f32⟩
  | .hbm, ⟨41, _⟩ => ⟨S8x52x64, .f32⟩
  | .hbm, ⟨42, _⟩ => ⟨S8x1x52x64, .f32⟩
  | .hbm, ⟨43, _⟩ => ⟨S8x128x52x64, .f32⟩
  | .hbm, ⟨44, _⟩ => ⟨S1024x52x64, .f32⟩
  | _, _ => ⟨S8x128x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_values : Ref sig .tc := ⟨.hbm, 12, rfl⟩
abbrev main_indices : Ref sig .tc := ⟨.hbm, 13, rfl⟩
abbrev main_cst_1 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_c_1 : Ref sig .tc := ⟨.hbm, 27, rfl⟩
abbrev main_call1_c_2 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_c_3 : Ref sig .tc := ⟨.hbm, 35, rfl⟩
abbrev main_call1_v11 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩

abbrev nD : Nat := 1
abbrev τ : Topo := Topo.v7x

variable {F : FTy → Type} [FloatOps F]
-- ==== Proof.BodyIdeal.lean ====
/-
  The body of the reduction call at one grid point, as three triples: at the first step of a batch, at a later step
  that is not the last, and at the last step. Each is stated on whole staging memrefs at any contents, and says what
  the two accumulators and the result's staging buffer hold afterwards.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.WordCmp
public import Idealize.ShloMosaic.Lib.Exec
public import Idealize.ShloMosaic.Lib.Pipeline.Kit
public import Idealize.ShloMosaic.Lib.VecWindow

@[expose] public section

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-- The step within the batch is the first one, as the body tests it. -/
abbrev atFirst (i : grid0.Coords) : BitVec 1 :=
  Scalar.cmpi .ne (Scalar.extui (Scalar.cmpi .eq (BitVec.ofNat 32 (i 1).val) 0#32) : BitVec 32) 0#32
/-- The step within the batch is after the first, as the body tests it. -/
abbrev pastFirst (i : grid0.Coords) : BitVec 1 :=
  Scalar.cmpi .ne (Scalar.extui (Scalar.cmpi .sgt (BitVec.ofNat 32 (i 1).val) 0#32) : BitVec 32) 0#32

/-- The eight rows of the norms' accumulator that a step fills. -/
abbrev rows (i : grid0.Coords) : Rect S128x512 := Rect.unit (s := S128x512) (k0_off1 i) S8x512.size (k0_off1_inb i)

/-- The norms' accumulator with a step's eight rows filled from the step's block. -/
def fillRows (i : grid0.Coords) (X : Vec F S128x512 .f32) (x1 : Vec F S1x8x512x64 .f32) : Vec F S128x512 .f32 :=
  (rows i).overlay X (k0_pay5 x1)

theorem read_fill {sp : Space} (v : View sig .tc sp S128x512 .f32) (f : v.ty.Contents (Elt F)) (i : grid0.Coords) (w : Vec F S8x512 .f32) :
    v.read (Elt F) (v.writes (Elt F) f [⟨rows i, w⟩]) = (rows i).overlay (v.read (Elt F) f) w := by
  funext y
  by_cases hy : y ∈ (rows i).set
  · obtain ⟨x, rfl⟩ := (rows i).exists_idx_of_mem hy
    exact (View.read_writes_cons_emb _ _ _ _ _ x).trans ((rows i).overlay_emb _ _ x).symm
  · rw [(rows i).overlay_of_not_mem _ _ hy]
    exact View.read_writes_apply_of_forall_not_mem _ _ _ _ (by simpa using hy)

set_option maxHeartbeats 1000000 in
/-- The first step of a batch: the eight rows filled, the running sum started. -/
theorem body_first (𝒱₀ : Variants) (c : Dev nD) (i : grid0.Coords) (h1 : atFirst i = 1#1) (h2 : ¬ pastFirst i = 1#1) (h3 : ¬ k0_cond3 i = 1#1)
    (arg2 : Memref sig .tc .vmem S128x128 .f32) (harg2 : arg2.IsWhole) (arg3 : Memref sig .tc .vmem S1x8x512x64 .f32) (harg3 : arg3.IsWhole)
    (arg4 : Memref sig .tc .vmem S1x52x64 .f32) (harg4 : arg4.IsWhole) (arg5 : Memref sig .tc .vmem S128x512 .f32) (harg5 : arg5.IsWhole)
    (arg6 : Memref sig .tc .vmem S512x64 .f32) (harg6 : arg6.IsWhole)
    (x1 : Vec F S1x8x512x64 .f32) (X5 : Vec F S128x512 .f32) (X6 : Vec F S512x64 .f32) (E : Set ℕ) (K : PUnit → sProp 𝕄) :
    iprop(owns (c : Thread nD τ) arg3 fullShare x1 ∗ owns (c : Thread nD τ) arg5 fullShare X5 ∗ owns (c : Thread nD τ) arg6 fullShare X6
        ∗ (iprop(owns (c : Thread nD τ) arg3 fullShare x1 ∗ owns (c : Thread nD τ) arg5 fullShare (fillRows i X5 x1)
            ∗ owns (c : Thread nD τ) arg6 fullShare (k0_pay7 x1)) -∗ K ⟨⟩))
      ⊢ wp frame (wpE (defs₀ (F := F)) 𝒱₀ c none) E (cc0__reduce_body i arg2 harg2 arg3 harg3 arg4 harg4 arg5 harg5 arg6 harg6) K := by
  simp only [cc0__reduce_body_eq_skeleton]; unfold cc0__reduce_body_skel
  simp only [k0_part2_eq_skeleton]; unfold k0_part2_skel
  unfold owns
  iintro ⟨⟨%f1, %hf1, H1⟩, ⟨%f5, %hf5, H5⟩, ⟨%f6, %hf6, H6⟩, Hk⟩
  sl_exec
  sl_step
  iapply Hk
  isplitl [H1]
  · iexists _; isplitr; swap; · iexact H1
    ipureintro; exact hf1
  isplitl [H5]
  · iexists _; isplitr; swap; · iexact H5
    ipureintro
    rw [read_fill, hf5, View.readAt_full, hf1]; rfl
  · iexists _; isplitr; swap; · iexact H6
    ipureintro
    refine (View.read_writes_full _ _ _ _ _).trans (congrArg k0_pay7 ((View.readAt_full _ _ _).trans hf1))

set_option maxHeartbeats 1000000 in
/-- A step between the first and the last: the eight rows filled, the running sum added to. -/
theorem body_mid (𝒱₀ : Variants) (c : Dev nD) (i : grid0.Coords) (h1 : ¬ atFirst i = 1#1) (h2 : pastFirst i = 1#1) (h3 : ¬ k0_cond3 i = 1#1)
    (arg2 : Memref sig .tc .vmem S128x128 .f32) (harg2 : arg2.IsWhole) (arg3 : Memref sig .tc .vmem S1x8x512x64 .f32) (harg3 : arg3.IsWhole)
    (arg4 : Memref sig .tc .vmem S1x52x64 .f32) (harg4 : arg4.IsWhole) (arg5 : Memref sig .tc .vmem S128x512 .f32) (harg5 : arg5.IsWhole)
    (arg6 : Memref sig .tc .vmem S512x64 .f32) (harg6 : arg6.IsWhole)
    (x1 : Vec F S1x8x512x64 .f32) (X5 : Vec F S128x512 .f32) (X6 : Vec F S512x64 .f32) (E : Set ℕ) (K : PUnit → sProp 𝕄) :
    iprop(owns (c : Thread nD τ) arg3 fullShare x1 ∗ owns (c : Thread nD τ) arg5 fullShare X5 ∗ owns (c : Thread nD τ) arg6 fullShare X6
        ∗ (iprop(owns (c : Thread nD τ) arg3 fullShare x1 ∗ owns (c : Thread nD τ) arg5 fullShare (fillRows i X5 x1)
            ∗ owns (c : Thread nD τ) arg6 fullShare (k0_pay8 x1 X6)) -∗ K ⟨⟩))
      ⊢ wp frame (wpE (defs₀ (F := F)) 𝒱₀ c none) E (cc0__reduce_body i arg2 harg2 arg3 harg3 arg4 harg4 arg5 harg5 arg6 harg6) K := by
  simp only [cc0__reduce_body_eq_skeleton]; unfold cc0__reduce_body_skel
  simp only [k0_part2_eq_skeleton]; unfold k0_part2_skel
  unfold owns
  iintro ⟨⟨%f1, %hf1, H1⟩, ⟨%f5, %hf5, H5⟩, ⟨%f6, %hf6, H6⟩, Hk⟩
  sl_exec
  sl_step
  iapply Hk
  isplitl [H1]
  · iexists _; isplitr; swap; · iexact H1
    ipureintro; exact hf1
  isplitl [H5]
  · iexists _; isplitr; swap; · iexact H5
    ipureintro
    rw [read_fill, hf5, View.readAt_full, hf1]; rfl
  · iexists _; isplitr; swap; · iexact H6
    ipureintro
    refine (View.read_writes_full _ _ _ _ _).trans (congrArg₂ k0_pay8 ((View.readAt_full _ _ _).trans hf1) ((View.readAt_full _ _ _).trans hf6))

set_option maxHeartbeats 2000000 in
/-- The last step: the eight rows filled, the running sum added to, and the batch's anchors stored. -/
theorem body_last (𝒱₀ : Variants) (c : Dev nD) (i : grid0.Coords) (h1 : ¬ atFirst i = 1#1) (h2 : pastFirst i = 1#1) (h3 : k0_cond3 i = 1#1)
    (arg2 : Memref sig .tc .vmem S128x128 .f32) (harg2 : arg2.IsWhole) (arg3 : Memref sig .tc .vmem S1x8x512x64 .f32) (harg3 : arg3.IsWhole)
    (arg4 : Memref sig .tc .vmem S1x52x64 .f32) (harg4 : arg4.IsWhole) (arg5 : Memref sig .tc .vmem S128x512 .f32) (harg5 : arg5.IsWhole)
    (arg6 : Memref sig .tc .vmem S512x64 .f32) (harg6 : arg6.IsWhole)
    (x0 : Vec F S128x128 .f32) (x1 : Vec F S1x8x512x64 .f32) (X5 : Vec F S128x512 .f32) (X6 : Vec F S512x64 .f32) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare X5 ∗ owns (c : Thread nD τ) arg6 fullShare X6
        ∗ (iprop(owns (c : Thread nD τ) arg2 fullShare x0 ∗ owns (c : Thread nD τ) arg3 fullShare x1
            ∗ owns (c : Thread nD τ) arg4 fullShare (k0_pay1 (k0_pay2 x0 (fillRows i X5 x1)) (k0_pay3 (k0_pay8 x1 X6)))
            ∗ owns (c : Thread nD τ) arg5 fullShare (fillRows i X5 x1)
            ∗ owns (c : Thread nD τ) arg6 fullShare (k0_pay8 x1 X6)) -∗ K ⟨⟩))
      ⊢ wp frame (wpE (defs₀ (F := F)) 𝒱₀ c none) E (cc0__reduce_body i arg2 harg2 arg3 harg3 arg4 harg4 arg5 harg5 arg6 harg6) K := by
  simp only [cc0__reduce_body_eq_skeleton]; unfold cc0__reduce_body_skel
  simp only [k0_part2_eq_skeleton, k0_part1_eq_skeleton]; unfold k0_part2_skel k0_part1_skel
  unfold owns
  iintro ⟨⟨%f0, %hf0, H0⟩, ⟨%f1, %hf1, H1⟩, ⟨%d4, %f4, -, H4⟩, ⟨%f5, %hf5, H5⟩, ⟨%f6, %hf6, H6⟩, Hk⟩
  sl_exec
  sl_step
  iapply Hk
  isplitl [H0]
  · iexists _; isplitr; swap; · iexact H0
    ipureintro; exact hf0
  isplitl [H1]
  · iexists _; isplitr; swap; · iexact H1
    ipureintro; exact hf1
  isplitl [H4]
  · iexists _; isplitr; swap; · iexact H4
    ipureintro
    have e1 : arg3.view.readAt (Elt F) (Rect.unit ![0, 0, 0, 0] S1x8x512x64.size inb_S1x8x512x64_S1x8x512x64_0_0_0_0).toLoadRect f1 = x1 :=
      (View.readAt_full _ _ _).trans hf1
    refine (View.read_writes_full _ _ _ _ _).trans ?_
    unfold body_last.sl.v93 body_last.sl.H5_1 body_last.sl.H6_1
    refine congrArg₂ k0_pay1 (congrArg₂ k0_pay2 ((View.readAt_full _ _ _).trans hf0) ((View.readAt_full _ _ _).trans ?_)) (congrArg k0_pay3 ?_)
    · rw [read_fill, hf5, e1]; rfl
    · rw [View.readCov_full, e1]
      exact congrArg _ ((View.readAt_full _ _ _).trans hf6)
  isplitl [H5]
  · iexists _; isplitr; swap; · iexact H5
    ipureintro
    unfold body_last.sl.H5_1
    rw [read_fill, hf5, View.readAt_full, hf1]; rfl
  · iexists _; isplitr; swap; · iexact H6
    ipureintro
    unfold body_last.sl.H6_1
    refine (View.read_writes_full _ _ _ _ _).trans (congrArg₂ k0_pay8 ((View.readAt_full _ _ _).trans hf1) ((View.readAt_full _ _ _).trans hf6))

end Cert.KernelIdeal.Reduce

end
-- ==== Proof.ReduceIdeal.lean ====
/-
  The reduction call as the pipeline runs it: what the two accumulators hold between grid points, the pipeline's proof
  data over that, and the body's triple at every point.
-/
module

public import proofs.«01_k».proof.Proof.BodyIdeal
public import Idealize.ShloMosaic.Lib.Pipeline.FrameSuffix
public import Idealize.ShloMosaic.Lib.ValueIdxCore

@[expose] public section

set_option maxRecDepth 16384

noncomputable section

namespace Cert.KernelIdeal.Reduce

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## The grid's points -/

theorem atFirst_iff : ∀ t : Fin grid0.N, atFirst (grid0.coords t) = 1#1 ↔ t.val % 16 = 0 := by decide +kernel
theorem pastFirst_iff : ∀ t : Fin grid0.N, pastFirst (grid0.coords t) = 1#1 ↔ t.val % 16 ≠ 0 := by decide +kernel
theorem atLast_iff : ∀ t : Fin grid0.N, k0_cond3 (grid0.coords t) = 1#1 ↔ t.val % 16 = 15 := by decide +kernel
theorem coord_step : ∀ t : Fin grid0.N, (grid0.coords t 1).val = t.val % 16 := by decide +kernel

variable (V : (c : Dev nD) → (b : Ref sig .tc) → Buf (Elt F) ((c : Thread nD τ).loc b)) (D : Dev nD → CellTallies nD τ sig Ix)

/-! ## What the buffers hold -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem mod_lt_points (n : ℕ) : n % 128 < cfg0.N := lt_of_lt_of_eq (Nat.mod_lt _ (by decide)) (N_0.symm)

/-- The patches' block at point number `n`. -/
def patchBlk (c : Dev nD) (n : ℕ) : Vec F S1x8x512x64 .f32 := iblk V c 1 ⟨n % 128, mod_lt_points n⟩
/-- The weights, whole. -/
def weightBlk (c : Dev nD) (t : Fin cfg0.N) : Vec F S128x128 .f32 := iblk V c 0 t

theorem patchBlk_val (c : Dev nD) (t : Fin cfg0.N) : patchBlk V c t.val = iblk V c 1 t := by
  unfold patchBlk
  have e : (⟨t.val % 128, mod_lt_points t.val⟩ : Fin cfg0.N) = t := Fin.ext (Nat.mod_eq_of_lt (lt_of_lt_of_eq t.isLt N_0))
  rw [e]

/-- The running sum over batch `b`'s blocks after its step `j`. -/
def running (c : Dev nD) (b : ℕ) : ℕ → Vec F S512x64 .f32
  | 0 => k0_pay7 (patchBlk V c (16 * b))
  | j + 1 => k0_pay8 (patchBlk V c (16 * b + (j + 1))) (running c b j)

/-- The norms of batch `b`, all 128 rows, each from the step that computes it. -/
def norms (c : Dev nD) (b : ℕ) : Vec F S128x512 .f32 := fun y =>
  k0_pay5 (patchBlk V c (16 * b + (y 0).val / 8)) (ValueIdx.ix2 (⟨(y 0).val % 8, Nat.mod_lt _ (by decide)⟩ : Fin 8) (y 1))

/-- What the accumulators hold before point number `n`: the norms' rows filled so far in this batch, and after the
    batch's first step the running sum. -/
def Filled (c : Dev nD) (n : ℕ) (X5 : Vec F S128x512 .f32) (X6 : Vec F S512x64 .f32) : Prop :=
  (∀ y : S128x512.Idx, (y 0).val < 8 * (n % 16) → X5 y = norms V c (n / 16) y) ∧ (n % 16 ≠ 0 → X6 = running V c (n / 16) (n % 16 - 1))

/-- A step fills its own eight rows and keeps the ones before. -/
theorem fillRows_eq (c : Dev nD) (t : Fin cfg0.N) (X5 : Vec F S128x512 .f32)
    (h : ∀ y : S128x512.Idx, (y 0).val < 8 * (t.val % 16) → X5 y = norms V c (t.val / 16) y)
    (y : S128x512.Idx) (hy : (y 0).val < 8 * (t.val % 16 + 1)) :
    fillRows (grid0.coords t) X5 (patchBlk V c t.val) y = norms V c (t.val / 16) y := by
  have ho : k0_off1 (grid0.coords t) = ![8 * (t.val % 16), 0] := by rw [k0_off1_eq, coord_step]
  have h0 : k0_off1 (grid0.coords t) 0 = 8 * (t.val % 16) := by rw [ho]; rfl
  have h1 : k0_off1 (grid0.coords t) 1 = 0 := by rw [ho]; rfl
  unfold fillRows
  by_cases hm : y ∈ (rows (grid0.coords t)).set
  · obtain ⟨x, rfl⟩ := (rows (grid0.coords t)).exists_idx_of_mem hm
    refine ((rows (grid0.coords t)).overlay_emb _ _ x).trans ?_
    have e0 : ((rows (grid0.coords t)).idx x 0).val = 8 * (t.val % 16) + (x 0).val := by
      show k0_off1 (grid0.coords t) 0 + 1 * (x 0).val = _
      rw [h0]; omega
    have e1 : ((rows (grid0.coords t)).idx x 1).val = (x 1).val := by
      show k0_off1 (grid0.coords t) 1 + 1 * (x 1).val = _
      rw [h1]; omega
    have hx : (x 0).val < 8 := (x 0).isLt
    unfold norms
    have ed : 16 * (t.val / 16) + ((rows (grid0.coords t)).idx x 0).val / 8 = t.val := by rw [e0]; omega
    rw [ed]
    refine congrArg (k0_pay5 (patchBlk V c t.val)) (funext fun a => Fin.ext ?_)
    match a with
    | ⟨0, _⟩ => show (x 0).val = ((rows (grid0.coords t)).idx x 0).val % 8; rw [e0]; omega
    | ⟨1, _⟩ => exact e1.symm
  · rw [(rows (grid0.coords t)).overlay_of_not_mem _ _ hm]
    refine h y ?_
    by_contra hlt
    refine hm (Rect.mem_set_unit.mpr fun a => ?_)
    match a with
    | ⟨0, _⟩ =>
      show k0_off1 (grid0.coords t) 0 ≤ (y 0).val ∧ (y 0).val < k0_off1 (grid0.coords t) 0 + 8
      rw [h0]; omega
    | ⟨1, _⟩ =>
      show k0_off1 (grid0.coords t) 1 ≤ (y 1).val ∧ (y 1).val < k0_off1 (grid0.coords t) 1 + 512
      rw [h1]; exact ⟨Nat.zero_le _, by have : (y 1).val < 512 := (y 1).isLt; omega⟩

/-- What the last step of a batch stores. -/
def anchors (c : Dev nD) (t : Fin cfg0.N) : Vec F S1x52x64 .f32 :=
  k0_pay1 (k0_pay2 (weightBlk V c t) (norms V c (t.val / 16))) (k0_pay3 (running V c (t.val / 16) 15))

/-! ## The pipeline's proof data -/

/-- The other calls' buffers, which this call leaves alone. -/
def others (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The two accumulators, at contents that are what point number `n` finds. -/
def accs (c : Dev nD) (n : ℕ) : sProp 𝕄 :=
  iprop(∃ X5 X6, ⌜Filled V c n X5 X6⌝ ∗ owns (c : Thread nD τ) (Memref.whole cc0_scratch0) fullShare X5
    ∗ owns (c : Thread nD τ) (Memref.whole cc0_scratch1) fullShare X6)

/-- What is held between points. -/
def Inv (c : Dev nD) (n : ℕ) : sProp 𝕄 := iprop(accs (Ix := Ix) (U := U) (Lvl := Lvl) V c n ∗ others c ∗ ∃ r, prngReg c r)

/-- The proof data: the arrays as the call finds them, each input's staging buffer left at its block, the result's
    left at the anchors. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => anchors V c t
  Φ t := Inv (Ix := Ix) (U := U) (Lvl := Lvl) V c t.val
  q _ := fullShare
  owed _ := D c

variable (ι : Ix)

local notation "𝕕" => dat (Ix := Ix) (U := U) (Lvl := Lvl) V D

theorem A_eq (c : Dev nD) (w : Fin cfg0.W) : (𝕕 c).A w = V c (Pipeline.arrRef spec0 w) := by dsimp only [dat]
theorem after_0 (c : Dev nD) (t : Fin cfg0.N) : (𝕕 c).after 0 t = iblk V c 0 t := by dsimp only [dat]
theorem after_1 (c : Dev nD) (t : Fin cfg0.N) : (𝕕 c).after 1 t = iblk V c 1 t := by dsimp only [dat]
theorem after_2 (c : Dev nD) (t : Fin cfg0.N) : (𝕕 c).after 2 t = anchors V c t := by dsimp only [dat]

/-- The weights' staging buffer holds the weights at every point, -/
theorem before_0 (c : Dev nD) (t : Fin cfg0.N) (d) : (𝕕 c).before 0 t d = iblk V c 0 t :=
  ((𝕕 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- and the patches' holds the point's block. -/
theorem before_1 (c : Dev nD) (t : Fin cfg0.N) (d) : (𝕕 c).before 1 t d = iblk V c 1 t :=
  ((𝕕 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body at a point -/

/-- What the body is called with at point `t`, -/
def bodyPre (c : Dev nD) (t : Fin cfg0.N) : sProp 𝕄 :=
  iprop((𝕕 c).Φ t.castSucc ∗ (𝕕 c).owesAt ι t.castSucc
    ∗ (∃ d, owns (c : Thread nD τ) (st0_0 t) fullShare ((𝕕 c).before 0 t d))
    ∗ (∃ d, owns (c : Thread nD τ) (st0_1 t) fullShare ((𝕕 c).before 1 t d))
    ∗ (∃ d, owns (c : Thread nD τ) (st0_2 t) fullShare ((𝕕 c).before 2 t d)))

/-- and what it returns. -/
def bodyPost (c : Dev nD) (t : Fin cfg0.N) : sProp 𝕄 :=
  iprop((𝕕 c).Φ t.succ ∗ (𝕕 c).owesAt ι t.succ
    ∗ owns (c : Thread nD τ) (st0_0 t) fullShare ((𝕕 c).after 0 t)
    ∗ owns (c : Thread nD τ) (st0_1 t) fullShare ((𝕕 c).after 1 t)
    ∗ (𝕕 c).leavesExact 2 t)

theorem idle_iff (t : Fin cfg0.N) (h : t.val % 16 ≠ 15) : cfg0.idle 2 (cfg0.grid.coords t) = true := by
  show (!(k0_cond3 (grid0.coords t) == 1#1)) = true
  have := (not_congr (atLast_iff t)).mpr h
  simpa using this

theorem busy_iff (t : Fin cfg0.N) (h : t.val % 16 = 15) : cfg0.idle 2 (cfg0.grid.coords t) = false := by
  show (!(k0_cond3 (grid0.coords t) == 1#1)) = false
  have := (atLast_iff t).mpr h
  simpa using this

theorem noflush (t : Fin cfg0.N) (h : t.val % 16 ≠ 15) : (cfg0.win 2).flush t = false := by
  have := (not_congr (flush0_2 t)).mpr h
  simpa using this

/-- The first step of a batch leaves the accumulators as the next point finds them, -/
theorem filled_first (c : Dev nD) (t : Fin cfg0.N) (ht : t.val % 16 = 0) (X5 : Vec F S128x512 .f32) (X6 : Vec F S512x64 .f32) (h : Filled V c t.val X5 X6) :
    Filled V c (t.val + 1) (fillRows (grid0.coords t) X5 (patchBlk V c t.val)) (k0_pay7 (patchBlk V c t.val)) := by
  have e1 : (t.val + 1) / 16 = t.val / 16 := by omega
  have e2 : (t.val + 1) % 16 = t.val % 16 + 1 := by omega
  refine ⟨fun y hy => ?_, fun _ => ?_⟩
  · rw [e1]; rw [e2] at hy; exact fillRows_eq V c t X5 h.1 y hy
  · rw [e1, e2, ht]
    show _ = k0_pay7 (patchBlk V c (16 * (t.val / 16)))
    rw [show 16 * (t.val / 16) = t.val by omega]

/-- a step in between does, -/
theorem filled_mid (c : Dev nD) (t : Fin cfg0.N) (ht : t.val % 16 ≠ 0) (hl : t.val % 16 ≠ 15) (X5 : Vec F S128x512 .f32) (X6 : Vec F S512x64 .f32) (h : Filled V c t.val X5 X6) :
    Filled V c (t.val + 1) (fillRows (grid0.coords t) X5 (patchBlk V c t.val)) (k0_pay8 (patchBlk V c t.val) X6) := by
  have e1 : (t.val + 1) / 16 = t.val / 16 := by omega
  have e2 : (t.val + 1) % 16 = t.val % 16 + 1 := by omega
  refine ⟨fun y hy => ?_, fun _ => ?_⟩
  · rw [e1]; rw [e2] at hy; exact fillRows_eq V c t X5 h.1 y hy
  · rw [e1, e2, h.2 ht]
    obtain ⟨j, hj⟩ : ∃ j, t.val % 16 = j + 1 := ⟨t.val % 16 - 1, by omega⟩
    rw [hj]
    show _ = k0_pay8 (patchBlk V c (16 * (t.val / 16) + (j + 1))) (running V c (t.val / 16) j)
    rw [show 16 * (t.val / 16) + (j + 1) = t.val by omega]; rfl

/-- and the last one leaves nothing to find. -/
theorem filled_last (c : Dev nD) (t : Fin cfg0.N) (hl : t.val % 16 = 15) (X5 : Vec F S128x512 .f32) (X6 : Vec F S512x64 .f32) :
    Filled V c (t.val + 1) X5 X6 :=
  ⟨fun y hy => absurd hy (by omega), fun h => absurd h (by omega)⟩

/-- What the last step stores is the batch's anchors. -/
theorem stored_last (c : Dev nD) (t : Fin cfg0.N) (hl : t.val % 16 = 15) (X5 : Vec F S128x512 .f32) (X6 : Vec F S512x64 .f32) (h : Filled V c t.val X5 X6) :
    k0_pay1 (k0_pay2 (iblk V c 0 t) (fillRows (grid0.coords t) X5 (iblk V c 1 t))) (k0_pay3 (k0_pay8 (iblk V c 1 t) X6)) = anchors V c t := by
  unfold anchors weightBlk
  have e5 : fillRows (grid0.coords t) X5 (iblk V c 1 t) = norms V c (t.val / 16) := by
    rw [← patchBlk_val]
    exact funext fun y => fillRows_eq V c t X5 h.1 y (by have : (y 0).val < 128 := (y 0).isLt; omega)
  have e6 : k0_pay8 (iblk V c 1 t) X6 = running V c (t.val / 16) 15 := by
    rw [← patchBlk_val, h.2 (by omega), hl]
    show _ = k0_pay8 (patchBlk V c (16 * (t.val / 16) + (14 + 1))) (running V c (t.val / 16) 14)
    rw [show 16 * (t.val / 16) + (14 + 1) = t.val by omega]
  rw [e5, e6]

set_option maxHeartbeats 1000000 in
theorem sound_body (𝒱₀ : Variants) (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost bodyAt0
  simp only [before_0, before_1]
  rw [show (𝕕 c).Φ t.succ = Inv V c (t.val + 1) from rfl, show (𝕕 c).Φ t.castSucc = Inv V c t.val from rfl,
    show (𝕕 c).owesAt ι t.succ = (𝕕 c).owesAt ι t.castSucc from rfl, after_0, after_1]
  unfold Inv accs
  iintro ⟨⟨⟨%X5, %X6, %hX, HA, HB⟩, Hrest⟩, Ho, ⟨%d0, H0⟩, ⟨%d1, H1⟩, ⟨%d2, H2⟩⟩
  by_cases hf : t.val % 16 = 0
  · have hl : t.val % 16 ≠ 15 := by omega
    rw [(𝕕 c).leavesExact_idle 2 t (idle_iff t hl) (noflush t hl)]
    iapply (body_first 𝒱₀ c (grid0.coords t) ((atFirst_iff t).mpr hf) ((not_congr (pastFirst_iff t)).mpr (by simpa using hf)) ((not_congr (atLast_iff t)).mpr hl)
      _ _ _ _ _ _ _ _ _ _ (iblk V c 1 t) X5 X6 Set.univ _)
    isplitl [H1]; · iexact H1
    isplitl [HA]; · iexact HA
    isplitl [HB]; · iexact HB
    iintro ⟨H1, HA, HB⟩
    isplitl [HA HB Hrest]
    · isplitl [HA HB]
      · iexists _; iexists _; isplitr
        swap
        · isplitl [HA]; · iexact HA
          iexact HB
        ipureintro
        rw [← patchBlk_val]; exact filled_first V c t hf X5 X6 hX
      · iexact Hrest
    isplitl [Ho]; · iexact Ho
    isplitl [H0]; · iexact H0
    isplitl [H1]; · iexact H1
    iexists _; iexact H2
  by_cases hl : t.val % 16 = 15
  · unfold Dat.leavesExact
    rw [busy_iff t hl]
    iapply (body_last 𝒱₀ c (grid0.coords t) ((not_congr (atFirst_iff t)).mpr hf) ((pastFirst_iff t).mpr hf) ((atLast_iff t).mpr hl)
      _ _ _ _ _ _ _ _ _ _ (iblk V c 0 t) (iblk V c 1 t) X5 X6 Set.univ _)
    isplitl [H0]; · iexact H0
    isplitl [H1]; · iexact H1
    isplitl [H2]; · iexists _; iexact H2
    isplitl [HA]; · iexact HA
    isplitl [HB]; · iexact HB
    iintro ⟨H0, H1, H2, HA, HB⟩
    isplitl [HA HB Hrest]
    · isplitl [HA HB]
      · iexists _; iexists _; isplitr
        swap
        · isplitl [HA]; · iexact HA
          iexact HB
        ipureintro
        exact filled_last V c t hl _ _
      · iexact Hrest
    isplitl [Ho]; · iexact Ho
    isplitl [H0]; · iexact H0
    isplitl [H1]; · iexact H1
    rw [stored_last V c t hl X5 X6 hX]
    iexact H2
  · rw [(𝕕 c).leavesExact_idle 2 t (idle_iff t hl) (noflush t hl)]
    iapply (body_mid 𝒱₀ c (grid0.coords t) ((not_congr (atFirst_iff t)).mpr hf) ((pastFirst_iff t).mpr hf) ((not_congr (atLast_iff t)).mpr hl)
      _ _ _ _ _ _ _ _ _ _ (iblk V c 1 t) X5 X6 Set.univ _)
    isplitl [H1]; · iexact H1
    isplitl [HA]; · iexact HA
    isplitl [HB]; · iexact HB
    iintro ⟨H1, HA, HB⟩
    isplitl [HA HB Hrest]
    · isplitl [HA HB]
      · iexists _; iexists _; isplitr
        swap
        · isplitl [HA]; · iexact HA
          iexact HB
        ipureintro
        rw [← patchBlk_val]; exact filled_mid V c t hf hl X5 X6 hX
      · iexact Hrest
    isplitl [Ho]; · iexact Ho
    isplitl [H0]; · iexact H0
    isplitl [H1]; · iexact H1
    iexists _; iexact H2

theorem defs₀_row (t : Fin cfg0.N) :
    defs₀ (F := F) .tc cfg0.body (cfg0.bodyArgs t (cfg0.slots t)) = bodyAt0 t := by
  unfold defs₀; rw [Defs.onTc_tc]

/-- The body's triple, at every point, as the pipeline's rule takes it. -/
theorem body_obligation (𝒱₀ : Variants) (c : Dev nD) : BodyObligation (𝕕 c) (defs₀ (F := F)) 𝒱₀ ι Set.univ := fun t => by
  rw [bigSep_W0, bigSep_W0, defs₀_row]
  exact triple_restated (sound_body (U := U) (Lvl := Lvl) V D ι 𝒱₀ c t) rfl .rfl fun _ => .rfl

/-- The call is entered with its scratch buffers at anything, -/
theorem enter (c : Dev nD) : iprop(Pipeline.scopedRest (Ix := Ix) (Name := ℕ) (U := U) (Lvl := Lvl) (Val := Elt F) spec0 c ∗ ∃ r, prngReg c r) ⊢ (𝕕 c).Φ 0 := by
  show _ ⊢ Inv (Ix := Ix) (U := U) (Lvl := Lvl) V c 0
  rw [scopedRest0_eq]
  unfold Inv accs others
  simp only [owns_whole]
  iintro ⟨⟨⟨%f5, H5⟩, ⟨%f6, H6⟩, Hr⟩, Hp⟩
  isplitl [H5 H6]
  · iexists f5; iexists f6
    isplitr
    · ipureintro; exact ⟨fun y hy => absurd hy (by omega), fun h => absurd rfl h⟩
    isplitl [H5]; · iexact H5
    iexact H6
  isplitl [Hr]; · iexact Hr
  iexact Hp

/-- and left with them at anything. -/
theorem leave (c : Dev nD) : (𝕕 c).Φ (Fin.last cfg0.N) ⊢ iprop(Pipeline.scopedRest (Ix := Ix) (Name := ℕ) (U := U) (Lvl := Lvl) (Val := Elt F) spec0 c ∗ ∃ r, prngReg c r) := by
  show Inv (Ix := Ix) (U := U) (Lvl := Lvl) V c _ ⊢ _
  rw [scopedRest0_eq]
  unfold Inv accs others
  simp only [owns_whole]
  iintro ⟨⟨%X5, %X6, -, H5, H6⟩, Hr, Hp⟩
  isplitl [H5 H6 Hr]
  · isplitl [H5]; · iexists _; iexact H5
    isplitl [H6]; · iexists _; iexact H6
    iexact Hr
  iexact Hp

end Cert.KernelIdeal.Reduce

end
-- ==== Proof.RunIdeal.lean ====
/-
  The program's run: the two calls and the reshape after them, from any memory with every counter at zero. Every
  execution terminates; the arguments end as they were, every counter ends at zero, and every array ends at the
  contents the calls' proof data compute.
-/
module

public import proofs.«01_k».proof.Proof.ReduceIdeal
public import proofs.«01_k».proof.Proof.Gen.KernelIdeal.Regions
public import proofs.«01_k».proof.Proof.Gen.Own.KernelIdeal.RegionsD

@[expose] public section

set_option maxRecDepth 16384

noncomputable section

namespace Cert.KernelIdeal.Reduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- The algebra: the pipelines' copy and one that is not used. -/
abbrev UU : Type := UR sig nD τ × UR sig nD τ

local notation "𝕄" => MT nD τ sig Unit (Elt F) ℕ UU ℕ

abbrev EP : Emb (UR sig nD τ) 𝕄 := embL
abbrev 𝒱₀ : Variants := Variants.none
/-- Every TensorCore semaphore waits at the one level; no core owes another anything. -/
abbrev L : GSem nD τ sig → Finset Unit := fun g => if g.1.2 = .tc then {()} else ∅
abbrev lv : GSem nD τ sig → Unit → ℕ := fun _ _ => 0
abbrev owed0 : Dev nD → CellTallies nD τ sig Unit := fun _ => 0

variable (m : (ℓ : Loc nD τ sig) → Buf (Elt F) ℓ)

/-- The arrays as the first call finds them. -/
abbrev Ve0 (c : Dev nD) (b : Ref sig .tc) : Buf (Elt F) ((c : Thread nD τ).loc b) := V0 m c (Proc.devRef .tc b)

/-- The first call's proof data. -/
abbrev dat0 (c : Dev nD) : Dat τ (Elt F) Unit ℕ UU ℕ cfg0 c := dat (Ve0 m) owed0 c

/-- What the first call leaves in the anchors' array. -/
def anchorsArr (c : Dev nD) : Buf (Elt F) ((c : Thread nD τ).loc main_v0) := (dat0 m c).arrAt 2 cfg0.N

/-- The arrays as the second call finds them. -/
def V1at (c : Dev nD) (b : Ref sig .tc) : Buf (Elt F) ((c : Thread nD τ).loc b) :=
  (Function.update (V0 m c) (Proc.devRef .tc main_v0) (anchorsArr m c) : Valuation τ sig (Elt F)) (Proc.devRef .tc b)

/-- The second call's proof data. -/
abbrev dat1 (c : Dev nD) : Dat τ (Elt F) Unit ℕ UU ℕ cfg1 c := Own.K1.dat 𝒱₀ (V1at m) owed0 c

/-- What the second call leaves in its result's array. -/
def copiesArr (c : Dev nD) : Buf (Elt F) ((c : Thread nD τ).loc main_v1) := (dat1 m c).arrAt 1 cfg1.N

/-- What the calls leave. -/
def outs : Outs (F := F) := fun J r c =>
  (if J = 1 then Function.update (V0 m c) (Proc.devRef .tc main_v0) (anchorsArr m c)
    else Function.update (V0 m c) (Proc.devRef .tc main_v1) (copiesArr m c) : Valuation τ sig (Elt F)) (Proc.devRef .tc r)

theorem outs_1 (c : Dev nD) : outs m 1 main_v0 c = anchorsArr m c := by
  unfold outs; rw [if_pos rfl, Function.update_self]
theorem outs_2 (c : Dev nD) : outs m 2 main_v1 c = copiesArr m c := by
  unfold outs; rw [if_neg (by decide), Function.update_self]

theorem V1at_eq : Own.Ve1 m (outs m) = V1at m := by
  funext c b
  show (Function.update (V0 m c) (Proc.devRef .tc main_v0) (outs m 1 main_v0 c) : Valuation τ sig (Elt F)) (Proc.devRef .tc b) = _
  rw [outs_1]; rfl

/-- The two calls' proof data. -/
def pd : (p : Fin 2) → (c : Dev nD) → Dat τ (Elt F) Unit ℕ UU ℕ (cfgs p) c
  | ⟨0, _⟩ => fun c => dat0 m c
  | ⟨1, _⟩ => fun c => dat1 m c

abbrev pds : (p : Fin 2) → (c : Dev nD) → Dat τ (Elt F) Unit ℕ UU ℕ (cfgs p) c :=
  Own.pdatsD (U := UU) (Lvl := ℕ) m (outs m) 𝒱₀ (pd m) owed0

theorem cut (p : Fin 2) : Pipeline.LevelCut (pcfgs (F := F)) adm () L lv p owed0 (fun _ => 0) where
  hι _ _ _ := by show () ∈ (if _ then _ else _ : Finset Unit); rw [if_pos rfl]; exact Finset.mem_singleton_self _
  hιb _ _ _ := le_refl _
  hD _ _ _ h := absurd h (lt_irrefl _)

/-- The arrays of the first call are held buffers. -/
theorem arr0_S : Pipeline.arrRefs (τ := τ) spec0 ⊆ Pipeline.ucRefs τ sig :=
  Pipeline.arrRefs_sub_ucRefs spec0 (by decide)
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))

/-- Every other held buffer is the same after the first call. -/
theorem rest0_eq (c : Dev nD) : ∀ b ∈ (Pipeline.ucRefs τ sig) \ Pipeline.arrRefs (τ := τ) spec0, V1 m (outs m) c b = V0 m c b := fun b hb => by
  have hn : b ∉ Pipeline.arrRefs (τ := τ) spec0 := (Finset.mem_sdiff.mp hb).2
  have h0 : b ≠ Proc.devRef .tc main_v0 := by rintro rfl; exact hn (arr0_mem 2)
  exact Function.update_of_ne h0 _ _

theorem V1_at_v0 (c : Dev nD) : V1 m (outs m) c (Proc.devRef .tc main_v0) = anchorsArr m c := by
  simp only [V1, Function.update_self, outs_1]

set_option backward.isDefEq.respectTransparency.types false in
/-- The first call as a segment: its arrays held at what it finds and at what it leaves, the rest riding along. -/
def R0 : RegionSeg (pcfgs (F := F)) adm (pds m) () defs₀ 𝒱₀ L lv 0 :=
  Pipeline.RegionSeg.ofHeld (pcfgs (F := F)) adm (pds m) () defs₀ 𝒱₀ L lv 0 owed0
    (fun c => iprop(∃ r, prngReg c r)) (fun c => iprop(∃ r, prngReg c r))
    launch0.toP rfl
    (fun c => (body_obligation (U := UU) (Lvl := ℕ) (Ve0 m) owed0 () 𝒱₀ c).loose) (fun _ _ => rfl) (fun _ => rfl)
    (fun c => (pds m 0 c).share_full fun _ => rfl) (fun c => enter (Ve0 m) owed0 c) (fun c => leave (Ve0 m) owed0 c) (fun _ => 0) (cut 0)
    (fun c => StableHlo.held (c : Thread nD τ) ((Pipeline.ucRefs τ sig) \ Pipeline.arrRefs (τ := τ) spec0) (V0 m c))
    (V0 m) (V1 m (outs m)) (fun _ _ => rfl)
    (fun c => fun
      | 0 => ((pds m 0 c).arrAt_in 0 rfl _).trans ((A_eq (U := UU) (Lvl := ℕ) (Ve0 m) owed0 c 0).trans (V1_of m (outs m) c (Pipeline.arrRef spec0 0) (by decide)).symm)
      | 1 => ((pds m 0 c).arrAt_in 1 rfl _).trans ((A_eq (U := UU) (Lvl := ℕ) (Ve0 m) owed0 c 1).trans (V1_of m (outs m) c (Pipeline.arrRef spec0 1) (by decide)).symm)
      | 2 => (V1_at_v0 m c).symm
      | ⟨_ + 3, h⟩ => absurd h (Nat.not_lt.2 (Nat.le_add_left _ _)))

/-- What rides beside the buffers between the calls. -/
abbrev Ebeside (c : Dev nD) : sProp 𝕄 := iprop((∃ r, prngReg c r) ∗ ∃ W, owes (c : Thread nD τ) (0 : CellTallies nD τ sig Unit) W)

theorem pre0 (c : Dev nD) : iprop(StableHlo.held (c : Thread nD τ) (Pipeline.ucRefs τ sig) (V0 m c) ∗ Ebeside c) ⊢ (R0 m).pre c := by
  show _ ⊢ iprop(StableHlo.held (c : Thread nD τ) (Pipeline.arrRefs (τ := τ) spec0) (V0 m c) ∗ (∃ r, prngReg c r)
    ∗ StableHlo.held (c : Thread nD τ) ((Pipeline.ucRefs τ sig) \ Pipeline.arrRefs (τ := τ) spec0) (V0 m c) ∗ ∃ W, owes (c : Thread nD τ) (owed0 c) W)
  rw [StableHlo.held_sub_split (c : Thread nD τ) arr0_S (V0 m c)]
  iintro ⟨⟨Ha, Hr⟩, Hp, HO⟩
  isplitl [Ha]; · iexact Ha
  isplitl [Hp]; · iexact Hp
  isplitl [Hr]; · iexact Hr
  iexact HO

theorem post0 (c : Dev nD) : (R0 m).post c ⊢ iprop(StableHlo.held (c : Thread nD τ) (Pipeline.ucRefs τ sig) (V1 m (outs m) c) ∗ Ebeside c) := by
  show iprop(StableHlo.held (c : Thread nD τ) (Pipeline.arrRefs (τ := τ) spec0) (V1 m (outs m) c) ∗ (∃ r, prngReg c r)
    ∗ StableHlo.held (c : Thread nD τ) ((Pipeline.ucRefs τ sig) \ Pipeline.arrRefs (τ := τ) spec0) (V0 m c) ∗ ∃ W, owes (c : Thread nD τ) (owed0 c) W) ⊢ _
  rw [StableHlo.held_sub_split (c : Thread nD τ) arr0_S (V1 m (outs m) c),
    StableHlo.held_congr (c : Thread nD τ) (S := (Pipeline.ucRefs τ sig) \ Pipeline.arrRefs (τ := τ) spec0) (rest0_eq m c)]
  iintro ⟨Ha, Hp, Hr, HO⟩
  isplitl [Ha Hr]; · isplitl [Ha] <;> iassumption
  isplitl [Hp]; · iexact Hp
  iexact HO

theorem left1 (c : Dev nD) : outs m 2 main_v1 c = (pds m 1 c).arrAt 1 cfg1.N := by
  rw [outs_2]
  show _ = (Own.K1.dat (U := UU) (Lvl := ℕ) 𝒱₀ (Own.Ve1 m (outs m)) owed0 c).arrAt 1 cfg1.N
  rw [V1at_eq]; rfl

/-- The second call as a segment. -/
def R1 : RegionSeg (pcfgs (F := F)) adm (pds m) () defs₀ 𝒱₀ L lv 1 :=
  Own.R1D m (outs m) 𝒱₀ L lv () (pd m) owed0 (fun _ => 0) (cut 1) (fun _ => iprop(emp)) (left1 m)

theorem pre1 (c : Dev nD) : iprop(StableHlo.held (c : Thread nD τ) (Pipeline.ucRefs τ sig) (V1 m (outs m) c) ∗ Ebeside c) ⊢ (R1 m).pre c :=
  Own.hpre1D m (outs m) 𝒱₀ L lv () (pd m) owed0 (fun _ => 0) (cut 1) (fun _ => Ebeside) (fun _ => iprop(emp))
    (fun c => by
      iintro ⟨Hp, HO⟩
      isplitl [Hp]; · iexact Hp
      isplitl [HO]; · iexact HO
      iempintro) (left1 m) c

theorem post1 (c : Dev nD) : (R1 m).post c ⊢ iprop(StableHlo.held (c : Thread nD τ) (Pipeline.ucRefs τ sig) (V2 m (outs m) c) ∗ Ebeside c) :=
  Own.hpost1D m (outs m) 𝒱₀ L lv () (pd m) owed0 (fun _ => 0) (cut 1) (fun _ => Ebeside) (fun _ => iprop(emp))
    (fun c => by
      iintro ⟨Hp, HO, -⟩
      isplitl [Hp]; · iexact Hp
      iexact HO) (left1 m) c

/-- The launch element: the pipelines' copy at the staging cells, the other one empty. -/
def u₀ : UU := (initOf (Pipeline.cells cfgs cellOf_inj) (Pipeline.launchToks cfgs cellOf_inj), 1)

abbrev sg (c : Dev nD) : List (Seg (pcfgs (F := F)) adm (pds m) () defs₀ 𝒱₀ L lv) :=
  segs m (outs m) 𝒱₀ L lv (fun _ => Ebeside) () (pds m) (R0 m) (R1 m) c

set_option backward.isDefEq.respectTransparency.types false in
/-- The run, every unscoped array read back. -/
theorem run (ρ : Dev nD → PrngReg) :
    θ_run defs (onTc (τ := τ) (main (F := F))) ⟨m, fun _ => 0, ρ⟩ (fun r =>
      (∀ c : Dev nD, ∀ b ∈ Pipeline.ucRefs τ sig, r.2.mem (((c : Thread nD τ).1, b) : Loc nD τ sig) = V3 m (outs m) c b)
      ∧ r.2.sem = fun _ => 0) := by
  refine Pipeline.θ_run_regions_kit_dev_sems (pcfgs (F := F)) adm (pds m) () cellOf_inj EP defs₀ 𝒱₀ L lv m ρ main (sg m)
    (fun c Q => by
      rewrite [main_chain c, Seg.run_eq_chain,
        show (sg m c).map Seg.prog = [
          Prog.lift (.customCall (Pipeline.entry 0) ()),
          Prog.lift (.customCall (Pipeline.entry 1) ()),
          StableHlo.seq hostOps2 ] from rfl]
      dsimp (config := { failIfUnchanged := false }) only
      exact .rfl)
    (fun c => by simp only [sg, segs, Seg.pipes_host, Seg.pipes_region, Seg.pipes_nil]; decide)
    owed0 (fun g h => if_neg h) (fun _ => iprop(emp)) u₀ ?_
    (T₀ := fun c => iprop(StableHlo.held (c : Thread nD τ) (Pipeline.ucRefs τ sig) (V0 m c) ∗ Ebeside c))
    (Tₙ := fun c => StableHlo.held (c : Thread nD τ) (Pipeline.ucRefs τ sig) (V3 m (outs m) c))
    (hch := fun c => ⟨pre0 m c, (post0 m c).trans (pre1 m c), post1 m c, sep_mono .rfl (by iintro ⟨-, HO⟩; iexact HO)⟩)
    (hinit := ?_) (QY := fun c s => ∀ b ∈ Pipeline.ucRefs τ sig, s.mem (((c : Thread nD τ).1, b) : Loc nD τ sig) = V3 m (outs m) c b)
    (hfin := fun c s' => ?_) (hQ := fun _ h hz => ⟨h, funext fun g => hz g (.inr (regions_no_unscoped g.2))⟩)
  · unfold u₀
    iintro Hu
    ihave H := (ownU_pair _ _) $$ Hu
    icases H with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro; exact h
    · iexact HSI

theorem main_mem (b : Ref sig .tc) (h : ¬ (Proc.devRef (τ := τ) .tc b).isScoped) : (Proc.devRef .tc b : DevRef τ sig) ∈ Pipeline.ucRefs τ sig :=
  Finset.mem_filter.mpr ⟨StableHlo.devRef_mem_tcRefs b, h⟩

/-- The frame: the program terminates, its arguments end as they were and every counter ends at zero. -/
theorem frame_holds (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1 c (Proc.devRef .tc main_arg0) (main_mem main_arg0 (by decide))).trans (V3_main_arg0 m (outs m) c),
      (h.1 c (Proc.devRef .tc main_arg1) (main_mem main_arg1 (by decide))).trans (V3_main_arg1 m (outs m) c)⟩, h.2⟩) (run m ρ)

/-- The program's result: the copies, in the result's shape. -/
def result (c : Dev nD) : Buf (Elt F) ((c : Thread nD τ).loc main_v2) :=
  shapeCast S1024x52x64 (copiesArr m c : FVec F S8x128x52x64 .f32) shapeCasts_S8x128x52x64_S1024x52x64

theorem V3_at_v2 (c : Dev nD) : V3 m (outs m) c (Proc.devRef .tc main_v2) = result m c := by
  have h : V2 m (outs m) c (Proc.devRef .tc main_v1) = copiesArr m c := by
    simp only [V2, Function.update_self, outs_2]
  unfold result
  rw [← h]
  show StableHlo.after hostOps2 (V2 m (outs m) c) (Proc.devRef .tc main_v2) = _
  after_results_simp <;> rfl

/-- The run with its result. -/
theorem run_result (ρ : Dev nD → PrngReg) :
    θ_run defs (onTc (τ := τ) (main (F := F))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h.1 c (Proc.devRef .tc main_v2) (main_mem main_v2 (by decide))).trans (V3_at_v2 m c),
      (h.1 c (Proc.devRef .tc main_arg0) (main_mem main_arg0 (by decide))).trans (V3_main_arg0 m (outs m) c),
      (h.1 c (Proc.devRef .tc main_arg1) (main_mem main_arg1 (by decide))).trans (V3_main_arg1 m (outs m) c)⟩) (run m ρ)

end Cert.KernelIdeal.Reduce

end
-- ==== Proof.ReadIdeal.lean ====
/-
  The reduction body's arithmetic read at an index, at extended reals: norms, column sums, scores, block sums.
-/
module

public import proofs.«01_k».proof.Proof.ReduceIdeal
public import Idealize.ShloMosaic.Lib.Pointwise
public import Idealize.ShloMosaic.Lib.IdealHost

@[expose] public section

set_option maxRecDepth 16384

noncomputable section

namespace Cert.KernelIdeal.Reduce

open Cert.KernelIdeal Cert.KernelIdeal.Gen
open Idealize.ShloMosaic

theorem residue_lt {m n : ℕ} (i : Fin m) (r : Fin n) : n * i.val + r.val < m * n := by
  have h1 : n * i.val + r.val < n * i.val + n := Nat.add_lt_add_left r.isLt _
  have h2 : n * i.val + n = n * (i.val + 1) := rfl
  have h3 : n * (i.val + 1) ≤ n * m := Nat.mul_le_mul_left n i.isLt
  rw [Nat.mul_comm m n]; omega

/-- A sum over `m * n` positions, by residue modulo `n` first. -/
theorem sum_by_residue {M : Type*} [AddCommMonoid M] (m n : ℕ) (f : Fin (m * n) → M) :
    ∑ k, f k = ∑ r : Fin n, ∑ i : Fin m, f ⟨n * i.val + r.val, residue_lt i r⟩ := by
  rw [Finset.sum_comm, ← Fintype.sum_prod_type', Fintype.sum_equiv finProdFinEquiv.symm]
  intro k
  refine congrArg f (Fin.ext ?_)
  exact (Nat.div_add_mod k.val n).symm

theorem sum_sixteen (a : Fin 16 → EReal) :
    a 0 + a 1 + a 2 + a 3 + a 4 + a 5 + a 6 + a 7 + a 8 + a 9 + a 10 + a 11 + a 12 + a 13 + a 14 + a 15 = ∑ i : Fin 16, a i := by
  simp only [Fin.sum_univ_castSucc, Fin.sum_univ_zero, zero_add]; rfl

/-- Eight values added in halves are their sum. -/
theorem sum_halves (a : Fin 8 → EReal) :
    (a 0 + a 4 + (a 2 + a 6)) + (a 1 + a 5 + (a 3 + a 7)) = ∑ r : Fin 8, a r := by
  rw [Fin.sum_univ_eight]; ac_rfl

theorem pay3_at (x : Vec Ideal S512x64 .f32) (p : Fin 512) (d : Fin 64) :
    k0_pay3 x (ix2 p d) = x (ix2 p d) * Ideal.ofBits .f32 0x3C000000#32 := by
  pointwise [k0_pay3]

theorem pay6_at (x : Vec Ideal S1x8x512x64 .f32) (p : Fin 512) (d : Fin 64) :
    k0_pay6 x (ix2 p d) = ∑ r : Fin 8, x (ix4 0 r p d) := by
  pointwise [k0_pay6, k0_pay4]

theorem pay7_at (x : Vec Ideal S1x8x512x64 .f32) (p : Fin 512) (d : Fin 64) :
    k0_pay7 x (ix2 p d) = ∑ r : Fin 8, x (ix4 0 r p d) := by
  rw [← pay6_at]
  pointwise [k0_pay7]

theorem pay8_at (x : Vec Ideal S1x8x512x64 .f32) (y : Vec Ideal S512x64 .f32) (p : Fin 512) (d : Fin 64) :
    k0_pay8 x y (ix2 p d) = y (ix2 p d) + ∑ r : Fin 8, x (ix4 0 r p d) := by
  rw [← pay6_at]
  pointwise [k0_pay8]

/-! ## Norms -/

/-- The squares' eight groups of lanes added up. -/
def lanes (q : FVec Ideal S8x512x64 .f32) : FVec Ideal S8x512x8 .f32 :=
  addf (addf (addf (addf (addf (addf (addf
    (extractStridedSlice S8x512x8 ![0, 0, 0] q slices_S8x512x64_o0_0_0_S8x512x8)
    (extractStridedSlice S8x512x8 ![0, 0, 8] q slices_S8x512x64_o0_0_8_S8x512x8))
    (extractStridedSlice S8x512x8 ![0, 0, 16] q slices_S8x512x64_o0_0_16_S8x512x8))
    (extractStridedSlice S8x512x8 ![0, 0, 24] q slices_S8x512x64_o0_0_24_S8x512x8))
    (extractStridedSlice S8x512x8 ![0, 0, 32] q slices_S8x512x64_o0_0_32_S8x512x8))
    (extractStridedSlice S8x512x8 ![0, 0, 40] q slices_S8x512x64_o0_0_40_S8x512x8))
    (extractStridedSlice S8x512x8 ![0, 0, 48] q slices_S8x512x64_o0_0_48_S8x512x8))
    (extractStridedSlice S8x512x8 ![0, 0, 56] q slices_S8x512x64_o0_0_56_S8x512x8)

theorem lanes_at (q : FVec Ideal S8x512x64 .f32) (r : Fin 8) (p : Fin 512) (e : Fin 8) :
    lanes q (ix3 r p e) = ∑ i : Fin 8, q (ix3 r p ⟨8 * i.val + e.val, residue_lt (m := 8) i e⟩) := by
  rw [Fin.sum_univ_eight]
  pointwise [lanes]

/-- Eight lanes added in halves. -/
def laneSum (a : FVec Ideal S8x512x8 .f32) : FVec Ideal S8x512x1 .f32 :=
  have b : FVec Ideal S8x512x4 .f32 := addf (extractStridedSlice S8x512x4 ![0, 0, 0] a slices_S8x512x8_o0_0_0_S8x512x4)
    (extractStridedSlice S8x512x4 ![0, 0, 4] a slices_S8x512x8_o0_0_4_S8x512x4)
  have c : FVec Ideal S8x512x2 .f32 := addf (extractStridedSlice S8x512x2 ![0, 0, 0] b slices_S8x512x4_o0_0_0_S8x512x2)
    (extractStridedSlice S8x512x2 ![0, 0, 2] b slices_S8x512x4_o0_0_2_S8x512x2)
  addf (extractStridedSlice S8x512x1 ![0, 0, 0] c slices_S8x512x2_o0_0_0_S8x512x1)
    (extractStridedSlice S8x512x1 ![0, 0, 1] c slices_S8x512x2_o0_0_1_S8x512x1)

theorem laneSum_at (a : FVec Ideal S8x512x8 .f32) (r : Fin 8) (p : Fin 512) :
    laneSum a (ix3 r p 0) = ∑ e : Fin 8, a (ix3 r p e) := by
  rw [← sum_halves fun e => a (ix3 r p e)]
  pointwise [laneSum]

theorem pay5_eq (x : Vec Ideal S1x8x512x64 .f32) :
    k0_pay5 x = shapeCast S8x512 (sqrt (shapeCast S8x512 (laneSum (lanes (mulf (k0_pay4 x) (k0_pay4 x)))) shapeCasts_S8x512x1_S8x512))
      shapeCasts_S8x512_S8x512 := rfl

theorem pay5_at (x : Vec Ideal S1x8x512x64 .f32) (r : Fin 8) (p : Fin 512) :
    k0_pay5 x (ix2 r p) = Ideal.sqrt (∑ d : Fin 64, x (ix4 0 r p d) * x (ix4 0 r p d)) := by
  have h := sum_by_residue 8 8 fun d => x (ix4 (0 : Fin 1) r p d) * x (ix4 (0 : Fin 1) r p d)
  have hq : ∀ d : Fin 64, mulf (k0_pay4 x) (k0_pay4 x) (ix3 r p d) = x (ix4 0 r p d) * x (ix4 0 r p d) := fun d => by
    pointwise [k0_pay4]
  rw [pay5_eq]
  refine Eq.trans ?_ (congrArg Ideal.sqrt h.symm)
  pointwise
  rw [laneSum_at]
  simp only [lanes_at, hq]

/-! ## Scores -/

/-- The weights' sixteen groups of rows added up. -/
def groups (w : Vec Ideal S128x128 .f32) : FVec Ideal S8x128 .f32 :=
  addf (addf (addf (addf (addf (addf (addf (addf (addf (addf (addf (addf (addf (addf (addf
    (extractStridedSlice S8x128 ![0, 0] w slices_S128x128_o0_0_S8x128)
    (extractStridedSlice S8x128 ![8, 0] w slices_S128x128_o8_0_S8x128))
    (extractStridedSlice S8x128 ![16, 0] w slices_S128x128_o16_0_S8x128))
    (extractStridedSlice S8x128 ![24, 0] w slices_S128x128_o24_0_S8x128))
    (extractStridedSlice S8x128 ![32, 0] w slices_S128x128_o32_0_S8x128))
    (extractStridedSlice S8x128 ![40, 0] w slices_S128x128_o40_0_S8x128))
    (extractStridedSlice S8x128 ![48, 0] w slices_S128x128_o48_0_S8x128))
    (extractStridedSlice S8x128 ![56, 0] w slices_S128x128_o56_0_S8x128))
    (extractStridedSlice S8x128 ![64, 0] w slices_S128x128_o64_0_S8x128))
    (extractStridedSlice S8x128 ![72, 0] w slices_S128x128_o72_0_S8x128))
    (extractStridedSlice S8x128 ![80, 0] w slices_S128x128_o80_0_S8x128))
    (extractStridedSlice S8x128 ![88, 0] w slices_S128x128_o88_0_S8x128))
    (extractStridedSlice S8x128 ![96, 0] w slices_S128x128_o96_0_S8x128))
    (extractStridedSlice S8x128 ![104, 0] w slices_S128x128_o104_0_S8x128))
    (extractStridedSlice S8x128 ![112, 0] w slices_S128x128_o112_0_S8x128))
    (extractStridedSlice S8x128 ![120, 0] w slices_S128x128_o120_0_S8x128)

theorem groups_at (w : Vec Ideal S128x128 .f32) (e : Fin 8) (n : Fin 128) :
    groups w (ix2 e n) = ∑ i : Fin 16, w (ix2 ⟨8 * i.val + e.val, residue_lt (m := 16) i e⟩ n) := by
  rw [← sum_sixteen fun i => w (ix2 ⟨8 * i.val + e.val, residue_lt (m := 16) i e⟩ n)]
  pointwise [groups]

/-- Eight rows added in halves. -/
def rowSum (a : FVec Ideal S8x128 .f32) : FVec Ideal S1x128 .f32 :=
  have b : FVec Ideal S4x128 .f32 := addf (extractStridedSlice S4x128 ![0, 0] a slices_S8x128_o0_0_S4x128)
    (extractStridedSlice S4x128 ![4, 0] a slices_S8x128_o4_0_S4x128)
  have c : FVec Ideal S2x128 .f32 := addf (extractStridedSlice S2x128 ![0, 0] b slices_S4x128_o0_0_S2x128)
    (extractStridedSlice S2x128 ![2, 0] b slices_S4x128_o2_0_S2x128)
  addf (extractStridedSlice S1x128 ![0, 0] c slices_S2x128_o0_0_S1x128)
    (extractStridedSlice S1x128 ![1, 0] c slices_S2x128_o1_0_S1x128)

theorem rowSum_at (a : FVec Ideal S8x128 .f32) (n : Fin 128) :
    rowSum a (ix2 0 n) = ∑ e : Fin 8, a (ix2 e n) := by
  rw [← sum_halves fun e => a (ix2 e n)]
  pointwise [rowSum]

theorem pay2_eq (w : Vec Ideal S128x128 .f32) (y : Vec Ideal S128x512 .f32) :
    k0_pay2 w y = shapeCast S512 (matmul dot_S1x128_S128x512_S1x512_1_0_0_1_n_n none
      (truncf .bf16 (mulf (rowSum (groups w)) (broadcast S1x128 (Scalar.ofBits .f32 0x3C000000#32))) bitsLt_bf16_f32)
      (truncf .bf16 y bitsLt_bf16_f32) (constant S1x512 .f32 0x00000000#32)) shapeCasts_S1x512_S512 := rfl

theorem pay2_at (w : Vec Ideal S128x128 .f32) (y : Vec Ideal S128x512 .f32) (p : Fin 512) :
    k0_pay2 w y (ix1 p) = ∑ n : Fin 128, ((∑ k : Fin 128, w (ix2 k n)) * Ideal.ofBits .f32 0x3C000000#32) * y (ix2 n p) := by
  have h := fun n : Fin 128 => sum_by_residue 16 8 fun k => w (ix2 k n)
  have hr : ∀ n : Fin 128, rowSum (groups w) (ix2 0 n) = ∑ k : Fin 128, w (ix2 k n) := fun n => by
    rw [rowSum_at]; simp only [groups_at]; exact (h n).symm
  rw [pay2_eq]
  generalize rowSum (groups w) = a at hr ⊢
  simp only [← hr]
  pointwise

end Cert.KernelIdeal.Reduce
-- ==== Proof.Ranking.lean ====
/-
  Ranking by counting: among `n` scores, the number of positions that come ahead of a position — a greater score, or an
  equal one further left — is the place a stable sort by decreasing score puts it.
-/
module

public import Idealize.ShloMosaic.Lib.SortFacts
public import Mathlib.Data.EReal.Basic
public import Mathlib.Data.Fintype.EquivFin
public import Mathlib.Order.Interval.Finset.Fin

@[expose] public section

noncomputable section

namespace Cert.Ranking

open Idealize.ShloMosaic

variable {n : ℕ} (s : Fin n → EReal)

/-- Position `r` scores more than position `q`. -/
def greater (r q : Fin n) : Bool := decide (s q < s r)

/-- Position `r` comes ahead of position `q`: it scores more, or as much and lies further left. -/
def ahead (r q : Fin n) : Bool := greater s r q || (decide (s r = s q) && decide (r < q))

/-- How many positions come ahead of `q`. -/
def place (q : Fin n) : ℕ := (Finset.univ.filter fun r => ahead s r q = true).card

theorem ahead_iff (r q : Fin n) : ahead s r q = true ↔ s q < s r ∨ (s r = s q ∧ r < q) := by
  simp [ahead, greater]

theorem ahead_trans_neg (a b c : Fin n) (hab : ahead s a b = false) (hbc : ahead s b c = false) : ahead s a c = false := by
  rw [← Bool.not_eq_true, ahead_iff, not_or, not_lt, not_and, not_lt] at *
  refine ⟨hab.1.trans hbc.1, fun e => ?_⟩
  have e1 : s a = s b := le_antisymm hab.1 (hbc.1.trans_eq e.symm)
  exact (hbc.2 (e1.symm.trans e)).trans (hab.2 e1)

theorem ahead_total (a b : Fin n) (h : a ≠ b) (hba : ahead s b a = false) : ahead s a b = true := by
  rw [← Bool.not_eq_true, ahead_iff, not_or, not_lt, not_and, not_lt] at hba
  rw [ahead_iff]
  rcases hba.1.lt_or_eq with hlt | he
  · exact Or.inl hlt
  · exact Or.inr ⟨he.symm, lt_of_le_of_ne (hba.2 he) h⟩

theorem ahead_asymm (a b : Fin n) (hab : ahead s a b = true) : ahead s b a = false := by
  rw [← Bool.not_eq_true, ahead_iff]
  rw [ahead_iff] at hab
  rintro (h | ⟨h, hl⟩) <;> rcases hab with h' | ⟨h', hl'⟩
  · exact lt_asymm h h'
  · exact absurd h' h.ne
  · exact absurd h h'.ne
  · exact lt_asymm hl hl'

/-- A stable sort by score alone of positions listed left to right breaks ties by position. -/
theorem stableSort_greater (l : List (Fin n)) (hl : l.Pairwise (· < ·)) :
    stableSort (greater s) l = stableSort (ahead s) l := by
  induction l with
  | nil => rfl
  | cons a l ih =>
    rw [List.pairwise_cons] at hl
    unfold stableSort
    rw [ih hl.2]
    refine insertBefore_congr _ _ a _ fun b hb => ?_
    have hab : a < b := hl.1 b ((perm_stableSort (ahead s) l).mem_iff.mp hb)
    simp [ahead, hab.not_gt]

theorem sortedFrom_greater : sortedFrom (greater s) = sortedFrom (ahead s) := by
  funext k
  have h : sortPositions n (greater s) = sortPositions n (ahead s) := stableSort_greater s _ (List.pairwise_lt_finRange n)
  unfold sortedFrom
  rw [List.get_of_eq h]
  rfl

/-- The position a stable sort by decreasing score puts at `k` has exactly `k` positions ahead of it. -/
theorem place_sortedFrom (k : Fin n) : place s (sortedFrom (greater s) k) = k.val := by
  rw [sortedFrom_greater]
  have hinj := sortedFrom_injective (ahead s)
  have hno : ∀ i j : Fin n, i < j → ahead s (sortedFrom (ahead s) j) (sortedFrom (ahead s) i) = false :=
    sortedFrom_noInversion (ahead s) (ahead s) (ahead_asymm s) (fun _ _ h => h) (ahead_trans_neg s)
  have hset : (Finset.univ.filter fun r => ahead s r (sortedFrom (ahead s) k) = true)
      = (Finset.univ.filter fun j : Fin n => j < k).image (sortedFrom (ahead s)) := by
    ext r
    simp only [Finset.mem_filter, Finset.mem_univ, true_and, Finset.mem_image]
    constructor
    · intro h
      obtain ⟨j, rfl⟩ := sortedFrom_surjective (ahead s) r
      refine ⟨j, ?_, rfl⟩
      by_contra hj
      rcases (not_lt.mp hj).lt_or_eq with hlt | rfl
      · rw [hno k j hlt] at h; exact absurd h (by decide)
      · rw [ahead_asymm s _ _ h] at h; exact absurd h (by decide)
    · rintro ⟨j, hj, rfl⟩
      exact ahead_total s _ _ (fun e => hj.ne (hinj e)) (hno j k hj)
  unfold place
  rw [hset, Finset.card_image_of_injective _ hinj]
  have e : (Finset.univ.filter fun j : Fin n => j < k) = Finset.Iio k := by ext j; simp
  rw [e, Fin.card_Iio]

/-- Two positions with as many ahead of them are one. -/
theorem place_injective : Function.Injective (place s) := by
  intro a b h
  obtain ⟨i, rfl⟩ := sortedFrom_surjective (greater s) a
  obtain ⟨j, rfl⟩ := sortedFrom_surjective (greater s) b
  rw [place_sortedFrom, place_sortedFrom] at h
  rw [Fin.ext h]

theorem place_lt (q : Fin n) : place s q < n := by
  obtain ⟨i, rfl⟩ := sortedFrom_surjective (greater s) q
  rw [place_sortedFrom]; exact i.isLt

theorem place_eq_iff (q : Fin n) (k : Fin n) : place s q = k.val ↔ q = sortedFrom (greater s) k := by
  constructor
  · intro h; exact place_injective s (h.trans (place_sortedFrom s k).symm)
  · rintro rfl; exact place_sortedFrom s k

/-- The position at place `i` of `n`, for one of the first `k` places. -/
def pick {k : ℕ} (hk : k ≤ n) (i : Fin k) : Fin n := sortedFrom (greater s) (i.castLE hk)

theorem place_pick {k : ℕ} (hk : k ≤ n) (i : Fin k) : place s (pick s hk i) = i.val := place_sortedFrom s _

theorem eq_pick {k : ℕ} (hk : k ≤ n) (i : Fin k) (q : Fin n) (h : place s q = i.val) : q = pick s hk i :=
  (place_eq_iff s q (i.castLE hk)).mp h

end Cert.Ranking
-- ==== Proof.PickIdeal.lean ====
/-
  The reduction body's selection read at an index, at extended reals: the count of the positions ahead is each score's
  place, and the product with the rows that mark a place picks that place's row.
-/
module

public import proofs.«01_k».proof.Proof.ReduceIdeal
public import proofs.«01_k».proof.Proof.Ranking
public import Idealize.ShloMosaic.Lib.Pointwise
public import Idealize.ShloMosaic.Lib.IdealHost
public import Idealize.ShloMosaic.Lib.WordCmp

@[expose] public section

set_option maxRecDepth 16384

noncomputable section

namespace Cert.KernelIdeal.Reduce

open Cert.KernelIdeal Cert.KernelIdeal.Gen
open Idealize.ShloMosaic
open Cert.Ranking

/-- Entry `(r, q)` is one exactly when score `r` comes ahead of score `q`. -/
def aheadBits (v : FVec Ideal S512 .f32) : IVec S512x512 1 :=
  have a : FVec Ideal S512x512 .f32 := broadcastTo S512x512 (shapeCast S512x1 v shapeCasts_S512_S512x1) broadcasts_S512x1_S512x512
  have b : FVec Ideal S512x512 .f32 := broadcastTo S512x512 (shapeCast S1x512 v shapeCasts_S512_S1x512) broadcasts_S1x512_S512x512
  ori (cmpf .ogt a b) (andi (cmpf .oeq a b)
    (cmpi .slt (iota .tc S512x512 32 [0] iota_S512x512_d0_w32) (iota .tc S512x512 32 [1] iota_S512x512_d1_w32)))

/-- How many scores come ahead of each, as an integer. -/
def counts (v : FVec Ideal S512 .f32) : IVec S512 32 :=
  fptosi 32 (multiReduction .add [0] S512 (sitofp .f32 (extui 32 (aheadBits v) natLt_1_32) : FVec Ideal S512x512 .f32) 0x00000000#32
    reduces_S512x512_S512 (.inl rfl) rfl)

/-- Row `i` marks the scores whose count is `i`. -/
def marks (v : FVec Ideal S512 .f32) : FVec Ideal S52x512 .f32 :=
  sitofp .f32 (extui 32 (cmpi .eq (iota .tc S52x512 32 [0] iota_S52x512_d0_w32)
    (broadcastTo S52x512 (shapeCast S1x512 (shapeCast S1x512 (counts v) shapeCasts_S512_S1x512) shapeCasts_S1x512_S1x512)
      broadcasts_S1x512_S52x512)) natLt_1_32)

theorem pay1_eq (v : FVec Ideal S512 .f32) (x : FVec Ideal S512x64 .f32) :
    k0_pay1 v x = shapeCast S1x52x64 (matmul dot_S52x512_S512x64_S52x64_1_0_0_1_n_n (some .fp32) (marks v) x
      (constant S52x64 .f32 0x00000000#32)) shapeCasts_S52x64_S1x52x64 := rfl

theorem ori_ofBool (a b : Bool) : IntOp.ori (BitVec.ofBool a) (BitVec.ofBool b) = BitVec.ofBool (a || b) := by
  cases a <;> cases b <;> rfl

theorem andi_ofBool (a b : Bool) : IntOp.andi (BitVec.ofBool a) (BitVec.ofBool b) = BitVec.ofBool (a && b) := by
  cases a <;> cases b <;> rfl

theorem slt_small (r q : Fin 512) :
    IntOp.cmpi .slt (BitVec.ofNat 32 r.val) (BitVec.ofNat 32 q.val) = BitVec.ofBool (decide (r < q)) := by
  have hr : (BitVec.ofNat 32 r.val).toInt = r.val := by
    rw [WordCmp.toInt_eq_toNat_of_lt_half] <;> rw [BitVec.toNat_ofNat] <;> have := r.isLt <;> omega
  have hq : (BitVec.ofNat 32 q.val).toInt = q.val := by
    rw [WordCmp.toInt_eq_toNat_of_lt_half] <;> rw [BitVec.toNat_ofNat] <;> have := q.isLt <;> omega
  rw [WordCmp.cmpi_slt_eq, hr, hq]
  refine congrArg BitVec.ofBool (decide_eq_decide.mpr ?_)
  exact Int.ofNat_lt

theorem sitofp_bit (b : Bool) : (FloatOps.sitofp .f32 ((BitVec.ofBool b).setWidth 32) : Ideal .f32) = if b = true then 1 else 0 := by
  cases b
  · show (((0 : ℤ) : ℝ) : EReal) = _
    simp
  · show (((1 : ℤ) : ℝ) : EReal) = _
    simp

/-- A small natural number converted to an integer word is its word. -/
theorem fptosi_nat (n : ℕ) (h : n < 512) : Ideal.fptosi 32 (n : EReal) = BitVec.ofNat 32 n := by
  have e : ((n : EReal)) = ((n : ℝ) : EReal) := EReal.coe_natCast.symm
  rw [e, Ideal.fptosi, Ideal.toIntClamped_coe, if_pos (Nat.cast_nonneg n), Int.floor_natCast]
  have e2 : max (-((2 ^ (32 - 1) : ℕ) : ℤ)) (min (((2 ^ (32 - 1) : ℕ) : ℤ) - 1) (n : ℤ)) = n := by
    norm_num; omega
  rw [e2]; rfl

theorem aheadBits_at (v : FVec Ideal S512 .f32) (r q : Fin 512) :
    aheadBits v (ix2 r q) = BitVec.ofBool (ahead (fun p : Fin 512 => v (ix1 p)) r q) := by
  pointwise [aheadBits]
  rw [slt_small, andi_ofBool, ori_ofBool]
  rfl

theorem counts_at (v : FVec Ideal S512 .f32) (q : Fin 512) :
    counts v (ix1 q) = BitVec.ofNat 32 (place (fun p : Fin 512 => v (ix1 p)) q) := by
  pointwise [counts]
  simp only [aheadBits_at, sitofp_bit]
  rw [Finset.sum_boole]
  exact fptosi_nat _ (place_lt _ q)

theorem marks_at (v : FVec Ideal S512 .f32) (i : Fin 52) (q : Fin 512) :
    marks v (ix2 i q) = if place (fun p : Fin 512 => v (ix1 p)) q = i.val then 1 else 0 := by
  have hp := place_lt (fun p : Fin 512 => v (ix1 p)) q
  pointwise [marks]
  rw [counts_at]
  generalize place (fun p : Fin 512 => v (ix1 p)) q = n at hp ⊢
  have e : IntOp.cmpi .eq (BitVec.ofNat 32 i.val) (BitVec.ofNat 32 n) = BitVec.ofBool (decide (n = i.val)) := by
    show BitVec.ofBool (BitVec.ofNat 32 i.val == BitVec.ofNat 32 n) = _
    congr 1
    rw [Bool.eq_iff_iff, beq_iff_eq, decide_eq_true_eq]
    constructor
    · intro h
      have h' := congrArg BitVec.toNat h
      rw [BitVec.toNat_ofNat, BitVec.toNat_ofNat] at h'
      have := i.isLt
      omega
    · rintro rfl; rfl
  rw [e, sitofp_bit]
  simp only [decide_eq_true_eq]

theorem pay1_at (v : FVec Ideal S512 .f32) (x : FVec Ideal S512x64 .f32) (i : Fin 52) (d : Fin 64) :
    k0_pay1 v x (ix3 0 i d) = x (ix2 (pick (fun p : Fin 512 => v (ix1 p)) (by decide : 52 ≤ 512) i) d) := by
  rw [pay1_eq]
  pointwise
  rw [Finset.sum_eq_single (pick (fun p : Fin 512 => v (ix1 p)) (by decide : 52 ≤ 512) i)]
  · rw [marks_at, place_pick, if_pos rfl]
    exact one_mul _
  · intro q _ hq
    rw [marks_at, if_neg fun h => hq (eq_pick _ _ i q h)]
    exact zero_mul _
  · intro h; exact absurd (Finset.mem_univ _) h

end Cert.KernelIdeal.Reduce
-- ==== Proof.ArraysIdeal.lean ====
/-
  The two calls' results read at an index, at extended reals, as the problem's mathematics over the argument arrays: the
  mean of the chosen rows, where a batch's rows are ranked by their weighted norms.
-/
module

public import proofs.«01_k».proof.Proof.RunIdeal
public import proofs.«01_k».proof.Proof.ReadIdeal
public import proofs.«01_k».proof.Proof.PickIdeal
public import Idealize.ShloMosaic.Lib.Pipeline.ValueKit
public import Idealize.ShloMosaic.Lib.Pointwise

@[expose] public section

set_option maxRecDepth 16384

noncomputable section

namespace Cert.KernelIdeal.Reduce

open Cert.KernelIdeal Cert.KernelIdeal.Gen
open Idealize.ShloMosaic Idealize.ShloMosaic.TcCoe
open Idealize.SL Idealize.SL.Sem
open Idealize.ShloMosaic.Pipeline (Dat)
open Cert.Ranking

/-! ## The mathematics -/

/-- The factor the kernel multiplies by for a mean over 128. -/
abbrev frac : Ideal .f32 := Ideal.ofBits .f32 0x3C000000#32

/-- The norm of patch `p`'s row in batch `b` at place `n`. -/
def rowNorm (X : S8x128x512x64.Idx → Ideal .f32) (b : Fin 8) (n : Fin 128) (p : Fin 512) : Ideal .f32 :=
  Ideal.sqrt (∑ d : Fin 64, X (ix4 b n p d) * X (ix4 b n p d))

/-- The score of patch `p` in batch `b`. -/
def score (X : S8x128x512x64.Idx → Ideal .f32) (W : S128x128.Idx → Ideal .f32) (b : Fin 8) (p : Fin 512) : Ideal .f32 :=
  ∑ n : Fin 128, ((∑ k : Fin 128, W (ix2 k n)) * frac) * rowNorm X b n p

/-- The entries at the 128 places. -/
abbrev atPlace (X : S8x128x512x64.Idx → Ideal .f32) (b : Fin 8) (p : Fin 512) (d : Fin 64) (n : Fin 128) : Ideal .f32 :=
  X (ix4 b n p d)

/-- The mean over the 128 places. -/
def average (X : S8x128x512x64.Idx → Ideal .f32) (b : Fin 8) (p : Fin 512) (d : Fin 64) : Ideal .f32 :=
  (∑ n : Fin 128, atPlace X b p d n) * frac

/-- The chosen rows' means. -/
def chosen (X : S8x128x512x64.Idx → Ideal .f32) (W : S128x128.Idx → Ideal .f32) (b : Fin 8) (i : Fin 52) (d : Fin 64) : Ideal .f32 :=
  average X b (pick (score X W b) (by decide : 52 ≤ 512) i) d

/-! ## Which block a point takes -/

theorem index0_0 : ∀ t : Fin cfg0.N, win0_0.index t = ![0, 0] := (by decide +kernel : ∀ t : Fin grid0.N, _)
theorem index0_1 : ∀ t : Fin cfg0.N, win0_1.index t = ![t.val / 16, t.val % 16, 0, 0] := (by decide +kernel : ∀ t : Fin grid0.N, _)
theorem index0_2 : ∀ t : Fin cfg0.N, win0_2.index t = ![t.val / 16, 0, 0] := (by decide +kernel : ∀ t : Fin grid0.N, _)
theorem index1_0 : ∀ t : Fin cfg1.N, win1_0.index t = ![t.val / 8, 0, 0] := (by decide +kernel : ∀ t : Fin grid1.N, _)
theorem index1_1 : ∀ t : Fin cfg1.N, win1_1.index t = ![t.val / 8, t.val % 8, 0, 0] := (by decide +kernel : ∀ t : Fin grid1.N, _)

section Blocks

variable (V : (c : Dev nD) → (b : Ref sig .tc) → Buf (Elt Ideal) ((c : Thread nD τ).loc b))

theorem weightBlk_at (c : Dev nD) (t : Fin cfg0.N) (k n : Fin 128) :
    weightBlk V c t (ix2 k n) = V c main_arg1 (ix2 k n) := by
  unfold weightBlk
  blk_simp [iblk]
  congr 1
  blk_ext [index0_0]

theorem patchBlk_at (c : Dev nD) (b : Fin 8) (s : Fin 16) (r : Fin 8) (p : Fin 512) (d : Fin 64) :
    patchBlk V c (16 * b.val + s.val) (ix4 0 r p d)
      = V c main_arg0 (ix4 b (⟨8 * s.val + r.val, residue_lt s r⟩ : Fin 128) p d) := by
  have hb := b.isLt
  have hs := s.isLt
  have h1 : (16 * b.val + s.val) % 128 / 16 = b.val := by omega
  have h2 : (16 * b.val + s.val) % 128 % 16 = s.val := by omega
  unfold patchBlk
  blk_simp [iblk]
  congr 1
  blk_ext [index0_1, h1, h2]

/-! ## What the accumulators hold at a batch's end -/

theorem running_at (c : Dev nD) (b s : ℕ) (p : Fin 512) (d : Fin 64) :
    running V c b s (ix2 p d) = ∑ j : Fin (s + 1), ∑ r : Fin 8, patchBlk V c (16 * b + j.val) (ix4 0 r p d) := by
  induction s with
  | zero =>
    rw [Fin.sum_univ_one]
    exact pay7_at _ p d
  | succ s ih =>
    rw [Fin.sum_univ_castSucc]
    exact (pay8_at _ _ p d).trans (congrArg (· + _) ih)

theorem total_at (c : Dev nD) (b : Fin 8) (p : Fin 512) (d : Fin 64) :
    running V c b.val 15 (ix2 p d) = ∑ n : Fin 128, atPlace (V c main_arg0) b p d n := by
  rw [running_at, sum_by_residue 16 8 fun n => atPlace (V c main_arg0) b p d n, Finset.sum_comm]
  refine Finset.sum_congr rfl fun r _ => Finset.sum_congr rfl fun j _ => ?_
  exact patchBlk_at V c b j r p d

theorem norms_at (c : Dev nD) (b : Fin 8) (n : Fin 128) (p : Fin 512) :
    norms V c b.val (ix2 n p) = rowNorm (V c main_arg0) b n p := by
  have hs : n.val / 8 < 16 := by have := n.isLt; omega
  have hr : n.val % 8 < 8 := Nat.mod_lt _ (by decide)
  have e : (⟨8 * (n.val / 8) + n.val % 8, residue_lt (⟨n.val / 8, hs⟩ : Fin 16) (⟨n.val % 8, hr⟩ : Fin 8)⟩ : Fin 128) = n :=
    Fin.ext (Nat.div_add_mod n.val 8)
  show k0_pay5 (patchBlk V c (16 * b.val + n.val / 8)) (ValueIdx.ix2 (⟨n.val % 8, hr⟩ : Fin 8) p) = rowNorm (V c main_arg0) b n p
  unfold rowNorm
  rw [← ix2_eq_valueIdx]
  refine (pay5_at _ _ _).trans (congrArg Ideal.sqrt (Finset.sum_congr rfl fun d _ => ?_))
  have h := patchBlk_at V c b ⟨n.val / 8, hs⟩ ⟨n.val % 8, hr⟩ p d
  rw [e] at h
  exact congrArg (fun z => z * z) h

theorem anchors_at (c : Dev nD) (t : Fin cfg0.N) (b : Fin 8) (hb : t.val / 16 = b.val) (i : Fin 52) (d : Fin 64) :
    anchors V c t (ix3 0 i d) = chosen (V c main_arg0) (V c main_arg1) b i d := by
  have hscore : (fun p : Fin 512 => k0_pay2 (weightBlk V c t) (norms V c (t.val / 16)) (ix1 p))
      = score (V c main_arg0) (V c main_arg1) b := by
    funext p
    rw [pay2_at, hb]
    unfold score
    refine Finset.sum_congr rfl fun n _ => ?_
    rw [norms_at]
    refine congrArg (fun z => z * frac * _) (Finset.sum_congr rfl fun k _ => weightBlk_at V c t k n)
  unfold anchors chosen average
  rw [pay1_at, pay3_at, hscore, hb, total_at]

/-- An index of a block with a leading axis of one. -/
theorem eq_ix3_zero (y : S1x52x64.Idx) : y = ix3 (0 : Fin 1) (y 1 : Fin 52) (y 2 : Fin 64) :=
  (eq_ix3 y).trans (congrArg (fun z : Fin 1 => ix3 z (y 1 : Fin 52) (y 2 : Fin 64)) (Subsingleton.elim (α := Fin 1) _ _))

theorem eq_ix4_zero (y : S1x16x52x64.Idx) : y = ix4 (0 : Fin 1) (y 1 : Fin 16) (y 2 : Fin 52) (y 3 : Fin 64) :=
  (eq_ix4 y).trans (congrArg (fun z : Fin 1 => ix4 z (y 1 : Fin 16) (y 2 : Fin 52) (y 3 : Fin 64)) (Subsingleton.elim (α := Fin 1) _ _))

end Blocks

theorem copy_at (x : Vec Ideal S1x52x64 .f32) (n : Fin 16) (i : Fin 52) (d : Fin 64) :
    k1_pay1 x (ix4 0 n i d) = x (ix3 0 i d) := by
  pointwise [k1_pay1]

/-! ## The calls' results -/

variable (m : (ℓ : Loc nD τ sig) → Buf (Elt Ideal) ℓ)

/-- The arguments. -/
abbrev patches (c : Dev nD) : S8x128x512x64.Idx → Ideal .f32 := m ((c : Thread nD τ).loc main_arg0)
abbrev weights (c : Dev nD) : S128x128.Idx → Ideal .f32 := m ((c : Thread nD τ).loc main_arg1)

/-- The first call's result is the chosen rows' means, -/
theorem anchorsArr_eq (c : Dev nD) :
    anchorsArr m c = fun y : S8x52x64.Idx => chosen (patches m c) (weights m c) (y 0) (y 1) (y 2) := by
  unfold anchorsArr
  refine (dat0 m c).arrAt_eq_of_covers 2 _ (by decide +kernel) fun t hf y => ?_
  blk_simp
  rw [after_2]
  have ht : t.val < 128 := lt_of_lt_of_eq t.isLt N_0
  refine (congrArg (anchors (Ve0 m) c t) (eq_ix3_zero y)).trans ?_
  refine (anchors_at (Ve0 m) c t ⟨t.val / 16, by omega⟩ rfl (y 1) (y 2)).trans ?_
  have h0 : ((0 : Fin 1)).val = (y 0).val := congrArg Fin.val (Subsingleton.elim (α := Fin 1) _ _)
  congr 1 <;> refine Fin.ext ?_ <;> blk_simp [index0_2]
/-- and the second's holds them for every place. -/
theorem copiesArr_eq (c : Dev nD) :
    copiesArr m c = fun y : S8x128x52x64.Idx => chosen (patches m c) (weights m c) (y 0) (y 2) (y 3) := by
  unfold copiesArr
  refine (dat1 m c).arrAt_eq_of_covers 1 _ (by decide +kernel) fun t hf y => ?_
  blk_simp
  rw [Own.K1.after1_1]
  unfold Own.K1.outsAt1
  frame_out
  have ht : t.val < 64 := lt_of_lt_of_eq t.isLt N_1
  have h0 : ((0 : Fin 1)).val = (y 0).val := congrArg Fin.val (Subsingleton.elim (α := Fin 1) _ _)
  refine (congrArg (k1_pay1 (Own.K1.iblk (V1at m) c 0 t)) (eq_ix4_zero y)).trans ?_
  refine (copy_at _ _ _ _).trans ?_
  have hV : V1at m c main_v0 = anchorsArr m c := by
    unfold V1at; exact Function.update_self ..
  blk_simp [Own.K1.iblk]
  refine (congrFun hV _).trans ?_
  rw [anchorsArr_eq]
  show chosen _ _ _ _ _ = chosen _ _ _ _ _
  congr 1 <;> refine Fin.ext ?_ <;> blk_simp [index1_0, index1_1]
  exact Nat.add_zero _

end Cert.KernelIdeal.Reduce
-- ==== Proof.ReadReference.lean ====
/-
  The reference's result read at an index, at extended reals: the mean of the chosen rows, a batch's rows ranked by their
  weighted norms.
-/
module

public import proofs.«01_k».proof.Proof.ArraysIdeal
public import proofs.«01_k».proof.Proof.Gen.ReferenceIdeal.Read
public import Idealize.ShloMosaic.Lib.Pointwise
public import Idealize.ShloMosaic.Lib.IdealHost
public import Idealize.ShloMosaic.Lib.WordCmp

@[expose] public section

set_option maxRecDepth 16384

noncomputable section

namespace Cert.ReferenceIdeal.Meaning

open Cert.ReferenceIdeal Cert.ReferenceIdeal.Gen Cert.ReferenceIdeal.Read
open Idealize.ShloMosaic Idealize.ShloMosaic.TcCoe
open Cert.Ranking
open Cert.KernelIdeal.Reduce (frac rowNorm score average atPlace chosen)

/-! ## The constants -/

theorem bits_128 : Ideal.ofBits .f32 0x43000000#32 = ((128 : ℝ) : EReal) := by
  simp [Ideal.ofBits, Ideal.ieee, -EReal.coe_mul]; norm_num

theorem bits_frac : Ideal.ofBits .f32 0x3C000000#32 = ((1 / 128 : ℝ) : EReal) := by
  simp [Ideal.ofBits, Ideal.ieee, -EReal.coe_mul]; norm_num

/-- Dividing by 128 is multiplying by its inverse. -/
theorem over_128 (x : EReal) : Ideal.div x (Ideal.ofBits .f32 0x43000000#32) = x * frac := by
  unfold frac
  rw [bits_128, bits_frac]
  exact Ideal.div_coe (by norm_num) x

variable (X : (⟨S8x128x512x64, .f32⟩ : BufTy).Contents (Elt Ideal)) (W : (⟨S128x128, .f32⟩ : BufTy).Contents (Elt Ideal))

/-! ## Means, norms and scores -/

theorem importance_at (n : Fin 128) : val_main_v2 (F := Ideal) W (ix1 n) = (∑ k : Fin 128, (W (ix2 k n) : Ideal .f32)) * frac := by
  rw [val_main_v2_apply, val_main_v0_apply, val_main_cst_apply, val_main_v1_apply, val_main_cst_0_apply, Ideal.hostDivf_def]
  refine (over_128 _).trans ?_
  rw [Ideal.ofBits_def, Ideal.ofBits_zero_f32, zero_add]
  refine congrArg (· * frac) (Finset.sum_congr rfl fun k _ => congrArg W (eq_ix2 _))

theorem norm_at (b : Fin 8) (n : Fin 128) (p : Fin 512) : val_main_v3 (F := Ideal) X (ix3 b n p) = rowNorm X b n p := by
  rw [val_main_v3_apply, val_main_call0_v1_apply, val_main_call0_cst_apply, Ideal.hostUnary_sqrt_def]
  unfold rowNorm
  rw [Ideal.ofBits_def, Ideal.ofBits_zero_f32, zero_add]
  refine congrArg Ideal.sqrt (Finset.sum_congr rfl fun d _ => ?_)
  rw [val_main_call0_v0_apply, eq_ix4 (idx_main_call0_v1 (ix3 b n p) d)]
  rfl

theorem score_at (b : Fin 8) (p : Fin 512) : val_main_v4 (F := Ideal) X W (ix2 b p) = score X W b p := by
  rw [val_main_v4_apply]
  unfold score
  refine Finset.sum_congr rfl fun n _ => ?_
  rw [mul_comm]
  refine congrArg₂ (· * ·) ?_ ?_
  · rw [eq_ix1 (ridx_main_v4 (ix2 b p) n)]
    exact importance_at W n
  · rw [eq_ix3 (lidx_main_v4 (ix2 b p) n)]
    exact norm_at X b n p

theorem average_at (b : Fin 8) (p : Fin 512) (d : Fin 64) : val_main_v7 (F := Ideal) X (ix3 b p d) = average X b p d := by
  rw [val_main_v7_apply, val_main_v5_apply, val_main_cst_1_apply, val_main_v6_apply, val_main_cst_2_apply, Ideal.hostDivf_def]
  refine (over_128 _).trans ?_
  unfold average
  rw [Ideal.ofBits_def, Ideal.ofBits_zero_f32, zero_add]
  refine congrArg (· * frac) (Finset.sum_congr rfl fun k _ => congrArg X (eq_ix4 _))

/-! ## The chosen rows -/

/-- The comparison the ranking sorts by. -/
theorem above_eq (a b : EReal) : (FloatOps.cmpfTotal (F := Ideal) (φ := .f32) .gt a b == 1#1) = decide (b < a) := by
  rw [Ideal.cmpfTotal_def]
  show (BitVec.ofBool (decide (b < a)) == 1#1) = decide (b < a)
  cases decide (b < a) <;> rfl

/-- The positions a ranking returns. -/
theorem ranked_at (s : S8x512.Idx → Ideal .f32) (b : Fin 8) (i : Fin 52) :
    (Host.topK S8x52 1 (FloatOps.cmpfTotal .gt) s sliceFits_S8x512_S8x52).2 (ix2 b i)
      = BitVec.ofNat 32 (pick (fun p : Fin 512 => (s (ix2 b p) : EReal)) (by decide : 52 ≤ 512) i).val := by
  have hrow : ∀ (j : S8x512.Idx) (k : Fin 512), j 0 = b → Function.update j (1 : Fin 2) k = ix2 b k := fun j k hj =>
    funext fun a => by
      match a with
      | ⟨0, _⟩ => exact hj
      | ⟨1, _⟩ => rfl
  have key : ∀ (j : S8x512.Idx), j 0 = b → j 1 = i.castLE (by decide : 52 ≤ 512) →
      sortedFrom (n := 512) (fun k k' : Fin 512 => (FloatOps.cmpfTotal .gt (s (Function.update j (1 : Fin 2) k))
        (s (Function.update j (1 : Fin 2) k')) : BitVec 1) == 1#1) (j 1)
        = pick (fun p : Fin 512 => (s (ix2 b p) : EReal)) (by decide : 52 ≤ 512) i := fun j h0 h1 => by
    unfold pick
    rw [h1]
    refine congrArg (fun f => sortedFrom f (i.castLE (by decide : 52 ≤ 512))) (funext fun k => funext fun k' => ?_)
    rw [hrow j k h0, hrow j k' h0]
    exact above_eq _ _
  have step : ∀ (J : S8x512.Idx) (q : Fin 512), iotaInDim S8x512 32 (1 : Fin 2) (J.along (1 : Fin 2) q) = BitVec.ofNat 32 q.val :=
    fun J q => rfl
  unfold Host.topK Host.sort2 extractStridedSlice
  dsimp only
  rw [dif_pos (by decide : 1 < S8x512.rank)]
  dsimp only
  rw [dif_pos (by decide : 1 < 2)]
  refine (step _ _).trans (congrArg (fun q : Fin 512 => BitVec.ofNat 32 q.val) (key _ ?_ ?_))
  · exact Fin.ext (Nat.zero_add _)
  · exact Fin.ext (Nat.zero_add _)

/-- The position at place `i` of batch `b`. -/
abbrev row (b : Fin 8) (i : Fin 52) : Fin 512 := pick (score X W b) (by decide : 52 ≤ 512) i

theorem indices_at (b : Fin 8) (i : Fin 52) : val_main_indices (F := Ideal) X W (ix2 b i) = BitVec.ofNat 32 (row X W b i).val := by
  unfold val_main_indices
  rw [ranked_at, show (fun p : Fin 512 => (val_main_v4 (F := Ideal) X W (ix2 b p) : EReal)) = score X W b from
    funext fun p => score_at X W b p]

theorem not_below_zero (n : ℕ) (h : n < 512) : ¬ (IntOp.cmpi .slt (BitVec.ofNat 32 n) 0#32 = 1#1) := by
  rw [WordCmp.cmpi_slt_ofNat_eq_one_iff (by omega) (by omega)]
  exact Nat.not_lt_zero _

/-- No index is negative, so none is moved up by 512. -/
theorem wrapped_at (b : Fin 8) (i : Fin 52) : val_main_call1_v4 (F := Ideal) X W (ix3 b i 0) = BitVec.ofNat 32 (row X W b i).val := by
  have h8 : val_main_v8 (F := Ideal) X W (ix3 b i 0) = BitVec.ofNat 32 (row X W b i).val := by
    rw [val_main_v8_apply, eq_ix2 (idx_main_v8 (ix3 b i 0))]
    exact indices_at X W b i
  have hlt := (row X W b i).isLt
  rw [val_main_call1_v4_apply, val_main_call1_v1_apply, val_main_call1_v0_apply, val_main_call1_c_apply, h8]
  exact if_neg (not_below_zero _ hlt)

/-- Every index is in range. -/
theorem inRange_at (b : Fin 8) (i : Fin 52) : val_main_call1_v10 (F := Ideal) X W (ix3 b i 0) = 1#1 := by
  have hlt := (row X W b i).isLt
  rw [val_main_call1_v10_apply, val_main_call1_v6_apply, val_main_call1_v9_apply, wrapped_at, val_main_call1_v5_apply,
    val_main_call1_c_2_apply, val_main_call1_v8_apply, val_main_call1_v7_apply, val_main_call1_c_1_apply]
  have e1 : IntOp.cmpi .sge (BitVec.ofNat 32 (row X W b i).val) 0#32 = 1#1 := by
    refine (WordCmp.cmpi_sge_ofNat_eq_one_iff ?_ ?_).mpr (Nat.zero_le _) <;> omega
  have e2 : IntOp.cmpi .sle (BitVec.ofNat 32 (row X W b i).val) 511#32 = 1#1 := by
    refine (WordCmp.cmpi_sle_ofNat_eq_one_iff ?_ ?_).mpr (by omega) <;> omega
  rw [e1, e2]; rfl

theorem mask_at (b : Fin 8) (i : Fin 52) : val_main_call1_v11 (F := Ideal) X W (ix2 b i) = 1#1 := by
  unfold val_main_call1_v11
  have hall : ∀ (b : Fin 8) (i : Fin 52) , val_main_call1_v10 (F := Ideal) X W (ix3 b i 0) = 1#1 := inRange_at X W
  generalize val_main_call1_v10 (F := Ideal) X W = y at hall
  pointwise
  have hc : (fun k : Fin 1 => y (ix3 b i k)) = fun _ => 1#1 := funext fun k => by
    rw [Subsingleton.elim k 0]; exact hall b i
  rw [hc, val_main_call1_c_3_apply, Finset.univ_unique, Finset.fold_singleton]
  rfl

/-- A batched choice of rows read at an index. -/
theorem gather_at (x : S8x512x64.Idx → Ideal .f32) (idx : IVec S8x52x1 32) (b : Fin 8) (i : Fin 52) (d : Fin 64) (q : Fin 512)
    (hq : idx (ix3 b i 0) = BitVec.ofNat 32 q.val) :
    Host.gather gather_S8x512x64_S8x52x1_S8x52x64_2_1_0_0_1_2_1164 x idx (ix3 b i d) = x (ix3 b q d) := by
  have hlt := q.isLt
  unfold Host.gather
  refine congrArg x (funext fun a => Fin.ext ?_)
  show GatherDims.start _ (ix3 b i d) idx a + GatherDims.batchCoord _ (ix3 b i d) a + GatherDims.offCoord _ (ix3 b i d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (show (0 : Fin 3) ∈ [0] by decide),
      GatherDims.offCoord_eq_zero _ _ _ (fun h => ((GatherDims.mem_sKept _ _).mp h).2 (show (0 : Fin 3) ∈ [0] by decide))]
    unfold GatherDims.batchCoord
    rw [dif_pos (show (0 : Fin S8x512x64.rank) ∈ gather_S8x512x64_S8x52x1_S8x52x64_2_1_0_0_1_2_1164.operandBatchingDims by decide), Nat.zero_add, Nat.add_zero]
    rfl
  · rw [GatherDims.batchCoord_eq_zero _ _ _ (show (1 : Fin 3) ∉ [0] by decide),
      GatherDims.offCoord_eq_zero _ _ _ (fun h => ((GatherDims.mem_sKept _ _).mp h).1 (show (1 : Fin 3) ∈ [1] by decide))]
    unfold GatherDims.start
    rw [dif_pos (show (1 : Fin S8x512x64.rank) ∈ gather_S8x512x64_S8x52x1_S8x52x64_2_1_0_0_1_2_1164.startIndexMap by decide), Nat.add_zero]
    have hs : GatherDims.siIdx gather_S8x512x64_S8x52x1_S8x52x64_2_1_0_0_1_2_1164 (ix3 b i d)
        ⟨List.idxOf (1 : Fin 3) [1], List.idxOf_lt_length_iff.2 (by decide)⟩ = ix3 b i 0 := by
      funext e; refine Fin.ext ?_
      match e with
      | ⟨0, _⟩ => rfl
      | ⟨1, _⟩ => rfl
      | ⟨2, _⟩ => rfl
    have hv : (BitVec.ofNat 32 q.val).toInt.toNat = q.val := by
      rw [WordCmp.toInt_eq_toNat_of_lt_half (by rw [BitVec.toNat_ofNat]; omega), Int.toNat_natCast, BitVec.toNat_ofNat]
      omega
    refine (congrArg (fun w : BitVec 32 => min w.toInt.toNat (512 - 1)) ((congrArg idx hs).trans hq)).trans ?_
    show min (BitVec.ofNat 32 q.val).toInt.toNat (512 - 1) = q.val
    rw [hv]; omega
  · rw [GatherDims.batchCoord_eq_zero _ _ _ (show (2 : Fin 3) ∉ [0] by decide)]
    unfold GatherDims.start
    rw [dif_neg (show (2 : Fin S8x512x64.rank) ∉ gather_S8x512x64_S8x52x1_S8x52x64_2_1_0_0_1_2_1164.startIndexMap by decide), Nat.zero_add]
    unfold GatherDims.offCoord
    rfl

/-- The rows taken. -/
theorem taken_at (b : Fin 8) (i : Fin 52) (d : Fin 64) : val_main_v9 (F := Ideal) X W (ix3 b i d) = chosen X W b i d := by
  rw [val_main_v9_apply, val_main_call1_v13_apply, eq_ix2 (idx_main_call1_v13 (ix3 b i d))]
  have hm : val_main_call1_v11 (F := Ideal) X W (ix2 (idx_main_call1_v13 (ix3 b i d) 0) (idx_main_call1_v13 (ix3 b i d) 1)) = 1#1 :=
    mask_at X W b i
  refine (if_pos hm).trans ?_
  unfold val_main_call1_v12
  exact (gather_at _ _ b i d _ (wrapped_at X W b i)).trans (average_at X b _ d)

/-- The reference's result before the two leading axes are merged. -/
theorem copies_eq : val_main_v11 (F := Ideal) X W = fun y : S8x128x52x64.Idx => chosen X W (y 0) (y 2) (y 3) := by
  funext y
  rw [val_main_v11_apply, val_main_v10_apply, eq_ix3 (idx_main_v10 (idx_main_v11 y))]
  exact taken_at X W (y 0) (y 2) (y 3)

end Cert.ReferenceIdeal.Meaning
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel.RegionsRQ
public import proofs.«01_k».proof.Proof.Gen.Own.Kernel.RegionsD
public import proofs.«01_k».proof.Proof.Gen.Own.Kernel.K1.Frame
public import proofs.«01_k».proof.Proof.Gen.KernelIdeal.RegionsRQ
public import proofs.«01_k».proof.Proof.Gen.Own.KernelIdeal.RegionsD
public import proofs.«01_k».proof.Proof.Gen.Own.KernelIdeal.K1.Frame
public import proofs.«01_k».proof.Proof.Gen.ReferenceIdeal.Run
public import proofs.«01_k».proof.Proof.Gen.ReferenceIdeal.Read
public import proofs.«01_k».proof.Proof.RunIdeal
public import proofs.«01_k».proof.Proof.RunKernel
public import proofs.«01_k».proof.Proof.ReadReference
public import Idealize.ShloMosaic.Adequacy
public import Idealize.ShloMosaic.Init

@[expose] public section

noncomputable section

namespace Cert.Proof

open Idealize.ShloMosaic Idealize.SL.Sem Cert.Kernel

/-- The kernel's frame. -/
theorem frame_kernel [Cert.Kernel.Facts] : Cert.quiescent_Kernel := fun m ρ _ => Cert.Kernel.Reduce.frame_holds (F := Bits) m ρ

/-- The frame of the kernel read over the extended reals. -/
theorem frame_kernelIdeal [Cert.KernelIdeal.Facts] : Cert.quiescent_KernelIdeal := fun m ρ _ => Cert.KernelIdeal.Reduce.frame_holds (F := Ideal) m ρ

/-- The reference's frame: it declares no semaphore. -/
theorem frame_reference [Cert.ReferenceIdeal.Facts] : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result as the chosen rows' means, copied for every place. -/
theorem result_eq (m : (ℓ : Loc Cert.KernelIdeal.nD Cert.KernelIdeal.τ Cert.KernelIdeal.sig) → Buf (Elt Ideal) ℓ) (c : Dev Cert.KernelIdeal.nD) :
    Cert.ReferenceIdeal.Read.val_main_v12 (F := Ideal) (Cert.KernelIdeal.Reduce.patches m c) (Cert.KernelIdeal.Reduce.weights m c)
      = Cert.KernelIdeal.Reduce.result (F := Ideal) m c := by
  unfold Cert.ReferenceIdeal.Read.val_main_v12 Cert.KernelIdeal.Reduce.result
  rw [Cert.ReferenceIdeal.Meaning.copies_eq, Cert.KernelIdeal.Reduce.copiesArr_eq]

/-- The kernel and the reference compute the same values over the extended reals. -/
theorem same_values [Cert.KernelIdeal.Facts] [Cert.ReferenceIdeal.Facts] : Cert.algebraic_KernelIdeal_ReferenceIdeal := by
  intro m g m' g' _ hargs
  refine ⟨fun c => Cert.KernelIdeal.Reduce.result (F := Ideal) m c, Cert.KernelIdeal.Reduce.run_result (F := Ideal) m g, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v12_eq (F := Ideal) m' c)).trans ?_
  rw [(hargs c).1, (hargs c).2]
  exact result_eq m c

theorem claim : Cert.Claim := ⟨Cert.Kernel.Gen.facts, Cert.KernelIdeal.Gen.facts, Cert.ReferenceIdeal.Gen.facts,
  frame_kernel, frame_kernelIdeal, frame_reference, trivial, same_values⟩

end Cert.Proof

end
